-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v196)) (v1 : (c : Dev Cert.KernelIdeal.nD) → Buf (Elt Ideal) ((c.tc : Thread Cert.KernelIdeal.nD Cert.KernelIdeal.τ).loc Cert.KernelIdeal.main_v192)) (v2 : (c : Dev Cert.KernelIdeal.nD) → Buf (Elt Ideal) ((c.tc : Thread Cert.KernelIdeal.nD Cert.KernelIdeal.τ).loc Cert.KernelIdeal.main_v195)) (v3 : (c : Dev Cert.KernelIdeal.nD) → Buf (Elt Ideal) ((c.tc : Thread Cert.KernelIdeal.nD Cert.KernelIdeal.τ).loc Cert.KernelIdeal.main_v197)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v196) = v0 c
          ∧ r.2.mem ((c.tc : Thread Cert.KernelIdeal.nD Cert.KernelIdeal.τ).loc Cert.KernelIdeal.main_v192) = v1 c
          ∧ r.2.mem ((c.tc : Thread Cert.KernelIdeal.nD Cert.KernelIdeal.τ).loc Cert.KernelIdeal.main_v195) = v2 c
          ∧ r.2.mem ((c.tc : Thread Cert.KernelIdeal.nD Cert.KernelIdeal.τ).loc Cert.KernelIdeal.main_v197) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_v15) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
-- ==== Pre_finite_args.lean ====
abbrev S8192x768 : Shape := ⟨2, ![8192, 768]⟩
abbrev S64x768 : Shape := ⟨2, ![64, 768]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel
  bcast_S_S64x768 : S_.BroadcastsInDim S64x768 (![] : Fin 0 → Fin S64x768.rank)
  reducesTo_S64x768_S_d0_1 : S64x768.ReducesTo [0, 1] S_

variable [Facts]

def fn {F : FTy → Type} [FloatOps F] (main_arg0 : FVec F S8192x768 .f32) (main_arg1 : FVec F S64x768 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  main_v8
-- ==== Kernel.lean ====
abbrev S8192x768 : Shape := ⟨2, ![8192, 768]⟩
abbrev S64x768 : Shape := ⟨2, ![64, 768]⟩
abbrev S_ : Shape := ⟨0, ![]⟩
abbrev S524288 : Shape := ⟨1, ![524288]⟩
abbrev S8192x64 : Shape := ⟨2, ![8192, 64]⟩
abbrev S8192 : Shape := ⟨1, ![8192]⟩
abbrev S8192x1 : Shape := ⟨2, ![8192, 1]⟩
abbrev S64 : Shape := ⟨1, ![64]⟩
abbrev S1x64 : Shape := ⟨2, ![1, 64]⟩
abbrev S8192x64x1 : Shape := ⟨3, ![8192, 64, 1]⟩
abbrev S8192x64x2 : Shape := ⟨3, ![8192, 64, 2]⟩
abbrev S1x1 : Shape := ⟨2, ![1, 1]⟩
abbrev S512x512 : Shape := ⟨2, ![512, 512]⟩
abbrev S512x64 : Shape := ⟨2, ![512, 64]⟩
abbrev S512 : Shape := ⟨1, ![512]⟩
abbrev S512x1 : Shape := ⟨2, ![512, 1]⟩
abbrev S1x1x64 : Shape := ⟨3, ![1, 1, 64]⟩
abbrev S1 : Shape := ⟨1, ![1]⟩
abbrev S1x1x1 : Shape := ⟨3, ![1, 1, 1]⟩
abbrev S8192x64x128 : Shape := ⟨3, ![8192, 64, 128]⟩
abbrev S512x64x128 : Shape := ⟨3, ![512, 64, 128]⟩
abbrev S512x1x1 : Shape := ⟨3, ![512, 1, 1]⟩

abbrev nBuf : Space → Nat
  | .hbm => 293
  | .vmem => 19
  | .smem => 0
  | _ => 0

abbrev hbmTy0_0 (i : Nat) : BufTy := match i % 128 with
  | 0 => ⟨S8192x768, .f32⟩
  | 1 => ⟨S64x768, .f32⟩
  | 2 => ⟨S_, .i32⟩
  | 3 => ⟨S524288, .i32⟩
  | 4 => ⟨S524288, .i32⟩
  | 5 => ⟨S_, .i32⟩
  | 6 => ⟨S524288, .i32⟩
  | 7 => ⟨S524288, .i32⟩
  | 8 => ⟨S_, .i32⟩
  | 9 => ⟨S524288, .i32⟩
  | 10 => ⟨S524288, .i32⟩
  | 11 => ⟨S524288, .i32⟩
  | 12 => ⟨S_, .i32⟩
  | 13 => ⟨S524288, .i32⟩
  | 14 => ⟨S524288, .i32⟩
  | 15 => ⟨S_, .i32⟩
  | 16 => ⟨S524288, .i32⟩
  | 17 => ⟨S524288, .i32⟩
  | 18 => ⟨S524288, .i32⟩
  | 19 => ⟨S524288, .i32⟩
  | 20 => ⟨S524288, .i32⟩
  | 21 => ⟨S_, .i32⟩
  | 22 => ⟨S524288, .i32⟩
  | 23 => ⟨S524288, .i32⟩
  | 24 => ⟨S_, .i32⟩
  | 25 => ⟨S524288, .i32⟩
  | 26 => ⟨S524288, .i32⟩
  | 27 => ⟨S524288, .i32⟩
  | 28 => ⟨S524288, .i32⟩
  | 29 => ⟨S524288, .i32⟩
  | 30 => ⟨S_, .i32⟩
  | 31 => ⟨S524288, .i32⟩
  | 32 => ⟨S524288, .i32⟩
  | 33 => ⟨S_, .i32⟩
  | 34 => ⟨S524288, .i32⟩
  | 35 => ⟨S524288, .i32⟩
  | 36 => ⟨S524288, .i32⟩
  | 37 => ⟨S524288, .i32⟩
  | 38 => ⟨S524288, .i32⟩
  | 39 => ⟨S_, .i32⟩
  | 40 => ⟨S524288, .i32⟩
  | 41 => ⟨S524288, .i32⟩
  | 42 => ⟨S_, .i32⟩
  | 43 => ⟨S524288, .i32⟩
  | 44 => ⟨S524288, .i32⟩
  | 45 => ⟨S524288, .i32⟩
  | 46 => ⟨S524288, .i32⟩
  | 47 => ⟨S_, .i32⟩
  | 48 => ⟨S524288, .i32⟩
  | 49 => ⟨S524288, .i32⟩
  | 50 => ⟨S_, .i32⟩
  | 51 => ⟨S524288, .i32⟩
  | 52 => ⟨S524288, .i32⟩
  | 53 => ⟨S_, .i32⟩
  | 54 => ⟨S524288, .i32⟩
  | 55 => ⟨S524288, .i32⟩
  | 56 => ⟨S524288, .i32⟩
  | 57 => ⟨S_, .i32⟩
  | 58 => ⟨S524288, .i32⟩
  | 59 => ⟨S524288, .i32⟩
  | 60 => ⟨S_, .i32⟩
  | 61 => ⟨S524288, .i32⟩
  | 62 => ⟨S524288, .i32⟩
  | 63 => ⟨S524288, .i32⟩
  | 64 => ⟨S524288, .i32⟩
  | 65 => ⟨S524288, .i32⟩
  | 66 => ⟨S_, .i32⟩
  | 67 => ⟨S524288, .i32⟩
  | 68 => ⟨S524288, .i32⟩
  | 69 => ⟨S_, .i32⟩
  | 70 => ⟨S524288, .i32⟩
  | 71 => ⟨S524288, .i32⟩
  | 72 => ⟨S524288, .i32⟩
  | 73 => ⟨S524288, .i32⟩
  | 74 => ⟨S524288, .i32⟩
  | 75 => ⟨S_, .i32⟩
  | 76 => ⟨S524288, .i32⟩
  | 77 => ⟨S524288, .i32⟩
  | 78 => ⟨S_, .i32⟩
  | 79 => ⟨S524288, .i32⟩
  | 80 => ⟨S524288, .i32⟩
  | 81 => ⟨S524288, .i32⟩
  | 82 => ⟨S524288, .i32⟩
  | 83 => ⟨S524288, .i32⟩
  | 84 => ⟨S_, .i32⟩
  | 85 => ⟨S524288, .i32⟩
  | 86 => ⟨S524288, .i32⟩
  | 87 => ⟨S_, .i32⟩
  | 88 => ⟨S524288, .i32⟩
  | 89 => ⟨S524288, .i32⟩
  | 90 => ⟨S524288, .i32⟩
  | 91 => ⟨S524288, .i32⟩
  | 92 => ⟨S_, .i32⟩
  | 93 => ⟨S524288, .i32⟩
  | 94 => ⟨S524288, .i32⟩
  | 95 => ⟨S_, .i32⟩
  | 96 => ⟨S524288, .i32⟩
  | 97 => ⟨S524288, .i32⟩
  | 98 => ⟨S_, .i32⟩
  | 99 => ⟨S524288, .i32⟩
  | 100 => ⟨S524288, .i32⟩
  | 101 => ⟨S524288, .i32⟩
  | 102 => ⟨S_, .i32⟩
  | 103 => ⟨S524288, .i32⟩
  | 104 => ⟨S524288, .i32⟩
  | 105 => ⟨S_, .i32⟩
  | 106 => ⟨S524288, .i32⟩
  | 107 => ⟨S524288, .i32⟩
  | 108 => ⟨S524288, .i32⟩
  | 109 => ⟨S524288, .i32⟩
  | 110 => ⟨S524288, .i32⟩
  | 111 => ⟨S_, .i32⟩
  | 112 => ⟨S524288, .i32⟩
  | 113 => ⟨S524288, .i32⟩
  | 114 => ⟨S_, .i32⟩
  | 115 => ⟨S524288, .i32⟩
  | 116 => ⟨S524288, .i32⟩
  | 117 => ⟨S524288, .i32⟩
  | 118 => ⟨S524288, .i32⟩
  | 119 => ⟨S524288, .i32⟩
  | 120 => ⟨S_, .i32⟩
  | 121 => ⟨S524288, .i32⟩
  | 122 => ⟨S524288, .i32⟩
  | 123 => ⟨S_, .i32⟩
  | 124 => ⟨S524288, .i32⟩
  | 125 => ⟨S524288, .i32⟩
  | 126 => ⟨S524288, .i32⟩
  | 127 => ⟨S524288, .i32⟩
  | _ => ⟨S8192x768, .f32⟩

abbrev hbmTy0_1 (i : Nat) : BufTy := match i % 128 with
  | 0 => ⟨S524288, .i32⟩
  | 1 => ⟨S_, .i32⟩
  | 2 => ⟨S524288, .i32⟩
  | 3 => ⟨S524288, .i32⟩
  | 4 => ⟨S_, .i32⟩
  | 5 => ⟨S524288, .i32⟩
  | 6 => ⟨S524288, .i32⟩
  | 7 => ⟨S524288, .i32⟩
  | 8 => ⟨S524288, .i32⟩
  | 9 => ⟨S_, .i32⟩
  | 10 => ⟨S524288, .i32⟩
  | 11 => ⟨S524288, .i32⟩
  | 12 => ⟨S_, .i32⟩
  | 13 => ⟨S524288, .i32⟩
  | 14 => ⟨S524288, .i32⟩
  | 15 => ⟨S_, .i32⟩
  | 16 => ⟨S524288, .i32⟩
  | 17 => ⟨S524288, .i32⟩
  | 18 => ⟨S524288, .i32⟩
  | 19 => ⟨S_, .i32⟩
  | 20 => ⟨S524288, .i32⟩
  | 21 => ⟨S524288, .i32⟩
  | 22 => ⟨S_, .i32⟩
  | 23 => ⟨S524288, .i32⟩
  | 24 => ⟨S524288, .i32⟩
  | 25 => ⟨S524288, .i32⟩
  | 26 => ⟨S524288, .i32⟩
  | 27 => ⟨S524288, .i32⟩
  | 28 => ⟨S_, .i32⟩
  | 29 => ⟨S524288, .i32⟩
  | 30 => ⟨S524288, .i32⟩
  | 31 => ⟨S_, .i32⟩
  | 32 => ⟨S524288, .i32⟩
  | 33 => ⟨S524288, .i32⟩
  | 34 => ⟨S524288, .i32⟩
  | 35 => ⟨S524288, .i32⟩
  | 36 => ⟨S524288, .i32⟩
  | 37 => ⟨S_, .i32⟩
  | 38 => ⟨S524288, .i32⟩
  | 39 => ⟨S524288, .i32⟩
  | 40 => ⟨S_, .i32⟩
  | 41 => ⟨S524288, .i32⟩
  | 42 => ⟨S524288, .i32⟩
  | 43 => ⟨S524288, .i32⟩
  | 44 => ⟨S524288, .i32⟩
  | 45 => ⟨S524288, .i32⟩
  | 46 => ⟨S_, .i32⟩
  | 47 => ⟨S524288, .i32⟩
  | 48 => ⟨S524288, .i32⟩
  | 49 => ⟨S_, .i32⟩
  | 50 => ⟨S524288, .i32⟩
  | 51 => ⟨S524288, .i32⟩
  | 52 => ⟨S524288, .i32⟩
  | 53 => ⟨S524288, .i32⟩
  | 54 => ⟨S_, .i32⟩
  | 55 => ⟨S524288, .i32⟩
  | 56 => ⟨S524288, .i32⟩
  | 57 => ⟨S_, .i32⟩
  | 58 => ⟨S524288, .i32⟩
  | 59 => ⟨S524288, .i32⟩
  | 60 => ⟨S_, .i32⟩
  | 61 => ⟨S524288, .i32⟩
  | 62 => ⟨S524288, .i32⟩
  | 63 => ⟨S524288, .i32⟩
  | 64 => ⟨S_, .i32⟩
  | 65 => ⟨S524288, .i32⟩
  | 66 => ⟨S524288, .i32⟩
  | 67 => ⟨S_, .i32⟩
  | 68 => ⟨S524288, .i32⟩
  | 69 => ⟨S524288, .i32⟩
  | 70 => ⟨S524288, .i32⟩
  | 71 => ⟨S524288, .i32⟩
  | 72 => ⟨S524288, .i32⟩
  | 73 => ⟨S_, .i32⟩
  | 74 => ⟨S524288, .i32⟩
  | 75 => ⟨S524288, .i32⟩
  | 76 => ⟨S_, .i32⟩
  | 77 => ⟨S524288, .i32⟩
  | 78 => ⟨S524288, .i32⟩
  | 79 => ⟨S524288, .i32⟩
  | 80 => ⟨S524288, .i32⟩
  | 81 => ⟨S524288, .i32⟩
  | 82 => ⟨S_, .i32⟩
  | 83 => ⟨S524288, .i32⟩
  | 84 => ⟨S524288, .i32⟩
  | 85 => ⟨S_, .i32⟩
  | 86 => ⟨S524288, .i32⟩
  | 87 => ⟨S524288, .i32⟩
  | 88 => ⟨S524288, .i32⟩
  | 89 => ⟨S524288, .i32⟩
  | 90 => ⟨S524288, .i32⟩
  | 91 => ⟨S_, .i32⟩
  | 92 => ⟨S524288, .i32⟩
  | 93 => ⟨S524288, .i32⟩
  | 94 => ⟨S_, .i32⟩
  | 95 => ⟨S524288, .i32⟩
  | 96 => ⟨S524288, .i32⟩
  | 97 => ⟨S524288, .i32⟩
  | 98 => ⟨S524288, .i32⟩
  | 99 => ⟨S_, .i32⟩
  | 100 => ⟨S524288, .i32⟩
  | 101 => ⟨S524288, .i32⟩
  | 102 => ⟨S_, .i32⟩
  | 103 => ⟨S524288, .i32⟩
  | 104 => ⟨S524288, .i32⟩
  | 105 => ⟨S_, .i32⟩
  | 106 => ⟨S524288, .i32⟩
  | 107 => ⟨S524288, .i32⟩
  | 108 => ⟨S524288, .i32⟩
  | 109 => ⟨S_, .i32⟩
  | 110 => ⟨S524288, .i32⟩
  | 111 => ⟨S524288, .i32⟩
  | 112 => ⟨S_, .i32⟩
  | 113 => ⟨S524288, .i32⟩
  | 114 => ⟨S524288, .i32⟩
  | 115 => ⟨S524288, .f32⟩
  | 116 => ⟨S_, .f32⟩
  | 117 => ⟨S524288, .f32⟩
  | 118 => ⟨S524288, .f32⟩
  | 119 => ⟨S8192x64, .f32⟩
  | 120 => ⟨S8192x64, .f32⟩
  | 121 => ⟨S8192x64, .i32⟩
  | 122 => ⟨S8192x64, .f32⟩
  | 123 => ⟨S8192x64, .i32⟩
  | 124 => ⟨S_, .i32⟩
  | 125 => ⟨S8192x64, .i32⟩
  | 126 => ⟨S8192, .i32⟩
  | 127 => ⟨S8192x1, .i32⟩
  | _ => ⟨S8192x768, .f32⟩

abbrev hbmTy0_2 (i : Nat) : BufTy := match i % 128 with
  | 0 => ⟨S8192x64, .i32⟩
  | 1 => ⟨S8192, .i32⟩
  | 2 => ⟨S8192x1, .i32⟩
  | 3 => ⟨S64, .i32⟩
  | 4 => ⟨S1x64, .i32⟩
  | 5 => ⟨S_, .i32⟩
  | 6 => ⟨S8192x64, .i32⟩
  | 7 => ⟨S8192x64, .i1⟩
  | 8 => ⟨S_, .i32⟩
  | 9 => ⟨S8192x64, .i32⟩
  | 10 => ⟨S8192x64, .i32⟩
  | 11 => ⟨S8192x64, .i32⟩
  | 12 => ⟨S_, .i32⟩
  | 13 => ⟨S1x64, .i32⟩
  | 14 => ⟨S1x64, .i1⟩
  | 15 => ⟨S_, .i32⟩
  | 16 => ⟨S1x64, .i32⟩
  | 17 => ⟨S1x64, .i32⟩
  | 18 => ⟨S1x64, .i32⟩
  | 19 => ⟨S8192x64, .i32⟩
  | 20 => ⟨S8192x64x1, .i32⟩
  | 21 => ⟨S8192x64x1, .i32⟩
  | 22 => ⟨S8192x64x2, .i32⟩
  | 23 => ⟨S8192x64, .i32⟩
  | 24 => ⟨S8192x1, .i32⟩
  | 25 => ⟨S8192x1, .i32⟩
  | 26 => ⟨S8192x1, .f32⟩
  | 27 => ⟨S8192x1, .i32⟩
  | 28 => ⟨S1x64, .i32⟩
  | 29 => ⟨S1x1, .f32⟩
  | 30 => ⟨S8192x64x128, .f32⟩
  | 31 => ⟨S_, .f32⟩
  | 32 => ⟨S8192x64x128, .f32⟩
  | 33 => ⟨S8192x64x128, .i1⟩
  | 34 => ⟨S8192x64x128, .i1⟩
  | 35 => ⟨S_, .f32⟩
  | 36 => ⟨S64, .i32⟩
  | _ => ⟨S8192x768, .f32⟩

abbrev hbmTy (i : Nat) : BufTy := match i / 128 with
  | 0 => hbmTy0_0 i
  | 1 => hbmTy0_1 i
  | 2 => hbmTy0_2 i
  | _ => ⟨S8192x768, .f32⟩

abbrev bufTy : (tb : Table) → Fin (tcTables nBuf tb) → BufTy
  | .hbm, ⟨i, _⟩ => hbmTy i
  | .local _ .vmem, ⟨0, _⟩ => ⟨S8192x768, .f32⟩
  | .local _ .vmem, ⟨1, _⟩ => ⟨S64x768, .f32⟩
  | .local _ .vmem, ⟨2, _⟩ => ⟨S8192x64, .i32⟩
  | .local _ .vmem, ⟨3, _⟩ => ⟨S8192x1, .i32⟩
  | .local _ .vmem, ⟨4, _⟩ => ⟨S8192x1, .i32⟩
  | .local _ .vmem, ⟨5, _⟩ => ⟨S8192x1, .f32⟩
  | .local _ .vmem, ⟨6, _⟩ => ⟨S8192x1, .i32⟩
  | .local _ .vmem, ⟨7, _⟩ => ⟨S1x64, .i32⟩
  | .local _ .vmem, ⟨8, _⟩ => ⟨S1x1, .f32⟩
  | .local _ .vmem, ⟨9, _⟩ => ⟨S512x1, .i32⟩
  | .local _ .vmem, ⟨10, _⟩ => ⟨S512x1, .i32⟩
  | .local _ .vmem, ⟨11, _⟩ => ⟨S512x1, .i32⟩
  | .local _ .vmem, ⟨12, _⟩ => ⟨S512x1, .i32⟩
  | .local _ .vmem, ⟨13, _⟩ => ⟨S512x1, .f32⟩
  | .local _ .vmem, ⟨14, _⟩ => ⟨S512x1, .f32⟩
  | .local _ .vmem, ⟨15, _⟩ => ⟨S512x1, .i32⟩
  | .local _ .vmem, ⟨16, _⟩ => ⟨S512x1, .i32⟩
  | .local _ .vmem, ⟨17, _⟩ => ⟨S512x64x128, .f32⟩
  | .local _ .vmem, ⟨18, _⟩ => ⟨S512x64x128, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_v7 : Ref sig .tc := ⟨.hbm, 13, rfl⟩
abbrev main_v8 : Ref sig .tc := ⟨.hbm, 14, rfl⟩
abbrev main_c_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_4 : Ref sig .tc := ⟨.hbm, 21, rfl⟩
abbrev main_v14 : Ref sig .tc := ⟨.hbm, 22, rfl⟩
abbrev main_v15 : Ref sig .tc := ⟨.hbm, 23, rfl⟩
abbrev main_c_5 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_6 : Ref sig .tc := ⟨.hbm, 30, rfl⟩
abbrev main_v21 : Ref sig .tc := ⟨.hbm, 31, rfl⟩
abbrev main_v22 : Ref sig .tc := ⟨.hbm, 32, rfl⟩
abbrev main_c_7 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_8 : Ref sig .tc := ⟨.hbm, 39, rfl⟩
abbrev main_v28 : Ref sig .tc := ⟨.hbm, 40, rfl⟩
abbrev main_v29 : Ref sig .tc := ⟨.hbm, 41, rfl⟩
abbrev main_c_9 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_10 : Ref sig .tc := ⟨.hbm, 47, rfl⟩
abbrev main_v34 : Ref sig .tc := ⟨.hbm, 48, rfl⟩
abbrev main_v35 : Ref sig .tc := ⟨.hbm, 49, rfl⟩
abbrev main_c_11 : Ref sig .tc := ⟨.hbm, 50, rfl⟩
abbrev main_v36 : Ref sig .tc := ⟨.hbm, 51, rfl⟩
abbrev main_v37 : Ref sig .tc := ⟨.hbm, 52, rfl⟩
abbrev main_c_12 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_13 : Ref sig .tc := ⟨.hbm, 57, rfl⟩
abbrev main_v41 : Ref sig .tc := ⟨.hbm, 58, rfl⟩
abbrev main_v42 : Ref sig .tc := ⟨.hbm, 59, rfl⟩
abbrev main_c_14 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_15 : Ref sig .tc := ⟨.hbm, 66, rfl⟩
abbrev main_v48 : Ref sig .tc := ⟨.hbm, 67, rfl⟩
abbrev main_v49 : Ref sig .tc := ⟨.hbm, 68, rfl⟩
abbrev main_c_16 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_17 : Ref sig .tc := ⟨.hbm, 75, rfl⟩
abbrev main_v55 : Ref sig .tc := ⟨.hbm, 76, rfl⟩
abbrev main_v56 : Ref sig .tc := ⟨.hbm, 77, rfl⟩
abbrev main_c_18 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_19 : Ref sig .tc := ⟨.hbm, 84, rfl⟩
abbrev main_v62 : Ref sig .tc := ⟨.hbm, 85, rfl⟩
abbrev main_v63 : Ref sig .tc := ⟨.hbm, 86, rfl⟩
abbrev main_c_20 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_21 : Ref sig .tc := ⟨.hbm, 92, rfl⟩
abbrev main_v68 : Ref sig .tc := ⟨.hbm, 93, rfl⟩
abbrev main_v69 : Ref sig .tc := ⟨.hbm, 94, rfl⟩
abbrev main_c_22 : Ref sig .tc := ⟨.hbm, 95, rfl⟩
abbrev main_v70 : Ref sig .tc := ⟨.hbm, 96, rfl⟩
abbrev main_v71 : Ref sig .tc := ⟨.hbm, 97, rfl⟩
abbrev main_c_23 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_24 : Ref sig .tc := ⟨.hbm, 102, rfl⟩
abbrev main_v75 : Ref sig .tc := ⟨.hbm, 103, rfl⟩
abbrev main_v76 : Ref sig .tc := ⟨.hbm, 104, rfl⟩
abbrev main_c_25 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_26 : Ref sig .tc := ⟨.hbm, 111, rfl⟩
abbrev main_v82 : Ref sig .tc := ⟨.hbm, 112, rfl⟩
abbrev main_v83 : Ref sig .tc := ⟨.hbm, 113, rfl⟩
abbrev main_c_27 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_c_28 : Ref sig .tc := ⟨.hbm, 120, rfl⟩
abbrev main_v89 : Ref sig .tc := ⟨.hbm, 121, rfl⟩
abbrev main_v90 : Ref sig .tc := ⟨.hbm, 122, rfl⟩
abbrev main_c_29 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_c_30 : Ref sig .tc := ⟨.hbm, 129, rfl⟩
abbrev main_v96 : Ref sig .tc := ⟨.hbm, 130, rfl⟩
abbrev main_v97 : Ref sig .tc := ⟨.hbm, 131, rfl⟩
abbrev main_c_31 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_c_32 : Ref sig .tc := ⟨.hbm, 137, rfl⟩
abbrev main_v102 : Ref sig .tc := ⟨.hbm, 138, rfl⟩
abbrev main_v103 : Ref sig .tc := ⟨.hbm, 139, rfl⟩
abbrev main_c_33 : Ref sig .tc := ⟨.hbm, 140, rfl⟩
abbrev main_v104 : Ref sig .tc := ⟨.hbm, 141, rfl⟩
abbrev main_v105 : Ref sig .tc := ⟨.hbm, 142, rfl⟩
abbrev main_c_34 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_c_35 : Ref sig .tc := ⟨.hbm, 147, rfl⟩
abbrev main_v109 : Ref sig .tc := ⟨.hbm, 148, rfl⟩
abbrev main_v110 : Ref sig .tc := ⟨.hbm, 149, rfl⟩
abbrev main_c_36 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_c_37 : Ref sig .tc := ⟨.hbm, 156, rfl⟩
abbrev main_v116 : Ref sig .tc := ⟨.hbm, 157, rfl⟩
abbrev main_v117 : Ref sig .tc := ⟨.hbm, 158, rfl⟩
abbrev main_c_38 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_c_39 : Ref sig .tc := ⟨.hbm, 165, rfl⟩
abbrev main_v123 : Ref sig .tc := ⟨.hbm, 166, rfl⟩
abbrev main_v124 : Ref sig .tc := ⟨.hbm, 167, rfl⟩
abbrev main_c_40 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_c_41 : Ref sig .tc := ⟨.hbm, 174, rfl⟩
abbrev main_v130 : Ref sig .tc := ⟨.hbm, 175, rfl⟩
abbrev main_v131 : Ref sig .tc := ⟨.hbm, 176, rfl⟩
abbrev main_c_42 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_c_43 : Ref sig .tc := ⟨.hbm, 182, rfl⟩
abbrev main_v136 : Ref sig .tc := ⟨.hbm, 183, rfl⟩
abbrev main_v137 : Ref sig .tc := ⟨.hbm, 184, rfl⟩
abbrev main_c_44 : Ref sig .tc := ⟨.hbm, 185, rfl⟩
abbrev main_v138 : Ref sig .tc := ⟨.hbm, 186, rfl⟩
abbrev main_v139 : Ref sig .tc := ⟨.hbm, 187, rfl⟩
abbrev main_c_45 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_c_46 : Ref sig .tc := ⟨.hbm, 192, rfl⟩
abbrev main_v143 : Ref sig .tc := ⟨.hbm, 193, rfl⟩
abbrev main_v144 : Ref sig .tc := ⟨.hbm, 194, rfl⟩
abbrev main_c_47 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_c_48 : Ref sig .tc := ⟨.hbm, 201, rfl⟩
abbrev main_v150 : Ref sig .tc := ⟨.hbm, 202, rfl⟩
abbrev main_v151 : Ref sig .tc := ⟨.hbm, 203, rfl⟩
abbrev main_c_49 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_c_50 : Ref sig .tc := ⟨.hbm, 210, rfl⟩
abbrev main_v157 : Ref sig .tc := ⟨.hbm, 211, rfl⟩
abbrev main_v158 : Ref sig .tc := ⟨.hbm, 212, rfl⟩
abbrev main_c_51 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_c_52 : Ref sig .tc := ⟨.hbm, 219, rfl⟩
abbrev main_v164 : Ref sig .tc := ⟨.hbm, 220, rfl⟩
abbrev main_v165 : Ref sig .tc := ⟨.hbm, 221, rfl⟩
abbrev main_c_53 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_c_54 : Ref sig .tc := ⟨.hbm, 227, rfl⟩
abbrev main_v170 : Ref sig .tc := ⟨.hbm, 228, rfl⟩
abbrev main_v171 : Ref sig .tc := ⟨.hbm, 229, rfl⟩
abbrev main_c_55 : Ref sig .tc := ⟨.hbm, 230, rfl⟩
abbrev main_v172 : Ref sig .tc := ⟨.hbm, 231, rfl⟩
abbrev main_v173 : Ref sig .tc := ⟨.hbm, 232, rfl⟩
abbrev main_c_56 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_c_57 : Ref sig .tc := ⟨.hbm, 237, rfl⟩
abbrev main_v177 : Ref sig .tc := ⟨.hbm, 238, rfl⟩
abbrev main_v178 : Ref sig .tc := ⟨.hbm, 239, rfl⟩
abbrev main_c_58 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_cst : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_call0_v0 : Ref sig .tc := ⟨.hbm, 249, rfl⟩
abbrev main_call0_v1_0 : Ref sig .tc := ⟨.hbm, 250, rfl⟩
abbrev main_v186 : Ref sig .tc := ⟨.hbm, 251, rfl⟩
abbrev main_c_59 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_call1_v0 : Ref sig .tc := ⟨.hbm, 256, rfl⟩
abbrev main_call1_v1 : Ref sig .tc := ⟨.hbm, 257, rfl⟩
abbrev main_call1_v2 : Ref sig .tc := ⟨.hbm, 258, rfl⟩
abbrev main_call1_v3 : Ref sig .tc := ⟨.hbm, 259, rfl⟩
abbrev main_call1_v4 : Ref sig .tc := ⟨.hbm, 260, rfl⟩
abbrev main_call1_c : Ref sig .tc := ⟨.hbm, 261, rfl⟩
abbrev main_call1_v5 : Ref sig .tc := ⟨.hbm, 262, rfl⟩
abbrev main_call1_v6 : Ref sig .tc := ⟨.hbm, 263, rfl⟩
abbrev main_call1_c_0 : Ref sig .tc := ⟨.hbm, 264, rfl⟩
abbrev main_call1_v7 : Ref sig .tc := ⟨.hbm, 265, rfl⟩
abbrev main_call1_v8 : Ref sig .tc := ⟨.hbm, 266, rfl⟩
abbrev main_call1_v9 : Ref sig .tc := ⟨.hbm, 267, rfl⟩
abbrev main_call1_c_1 : Ref sig .tc := ⟨.hbm, 268, rfl⟩
abbrev main_call1_v10 : Ref sig .tc := ⟨.hbm, 269, rfl⟩
abbrev main_call1_v11 : Ref sig .tc := ⟨.hbm, 270, rfl⟩
abbrev main_call1_c_2 : Ref sig .tc := ⟨.hbm, 271, rfl⟩
abbrev main_call1_v12 : Ref sig .tc := ⟨.hbm, 272, rfl⟩
abbrev main_call1_v13 : Ref sig .tc := ⟨.hbm, 273, rfl⟩
abbrev main_call1_v14 : Ref sig .tc := ⟨.hbm, 274, rfl⟩
abbrev main_call1_v15 : Ref sig .tc := ⟨.hbm, 275, rfl⟩
abbrev main_call1_v16 : Ref sig .tc := ⟨.hbm, 276, rfl⟩
abbrev main_call1_v17 : Ref sig .tc := ⟨.hbm, 277, rfl⟩
abbrev main_call1_v18 : Ref sig .tc := ⟨.hbm, 278, rfl⟩
abbrev main_v190 : Ref sig .tc := ⟨.hbm, 279, rfl⟩
abbrev main_v191_0 : Ref sig .tc := ⟨.hbm, 280, rfl⟩
abbrev main_v191_1 : Ref sig .tc := ⟨.hbm, 281, rfl⟩
abbrev main_v191_2 : Ref sig .tc := ⟨.hbm, 282, rfl⟩
abbrev main_v191_3 : Ref sig .tc := ⟨.hbm, 283, rfl⟩
abbrev main_v191_4 : Ref sig .tc := ⟨.hbm, 284, rfl⟩
abbrev main_v191_5 : Ref sig .tc := ⟨.hbm, 285, rfl⟩
abbrev main_v192 : Ref sig .tc := ⟨.hbm, 286, rfl⟩
abbrev main_cst_60 : Ref sig .tc := ⟨.hbm, 287, rfl⟩
abbrev main_v193 : Ref sig .tc := ⟨.hbm, 288, rfl⟩
abbrev main_v194 : Ref sig .tc := ⟨.hbm, 289, rfl⟩
abbrev main_v195 : Ref sig .tc := ⟨.hbm, 290, rfl⟩
abbrev main_v196 : Ref sig .tc := ⟨.hbm, 291, rfl⟩
abbrev main_v197 : Ref sig .tc := ⟨.hbm, 292, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := .none

@[reducible] def k0_t1_loop : Scf.Loop 32 :=
  let c0_i32_10 : BitVec 32 := 0#32
  let c14_i32 : BitVec 32 := 14#32
  let v30 : BitVec 32 := Scalar.addi c0_i32_10 c14_i32
  let c1_i32 : BitVec 32 := 1#32
  ⟨c0_i32_10, v30, c1_i32⟩
abbrev stage0_0 : Fin 1 → Memref sig .tc .vmem S8192x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x64 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x64 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x64x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S8192x768 : Shape := ⟨2, ![8192, 768]⟩
abbrev S64x768 : Shape := ⟨2, ![64, 768]⟩
abbrev S768x64 : Shape := ⟨2, ![768, 64]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S64 : Shape := ⟨1, ![64]⟩
abbrev S1 : Shape := ⟨1, ![1]⟩
abbrev S2 : Shape := ⟨1, ![2]⟩
abbrev S1x1 : Shape := ⟨2, ![1, 1]⟩
abbrev S64x8192 : Shape := ⟨2, ![64, 8192]⟩
abbrev S64x128 : Shape := ⟨2, ![64, 128]⟩
abbrev S128x64 : Shape := ⟨2, ![128, 64]⟩
abbrev S128x64x1 : Shape := ⟨3, ![128, 64, 1]⟩
abbrev S128x64x2 : Shape := ⟨3, ![128, 64, 2]⟩
abbrev S1x128 : Shape := ⟨2, ![1, 128]⟩
abbrev S8192x128 : Shape := ⟨2, ![8192, 128]⟩
abbrev S8192x64x1 : Shape := ⟨3, ![8192, 64, 1]⟩
abbrev S8192x1x128 : Shape := ⟨3, ![8192, 1, 128]⟩
abbrev S8192x64x128 : Shape := ⟨3, ![8192, 64, 128]⟩

abbrev nBuf : Space → Nat
  | .hbm => 379
  | .vmem => 0
  | .smem => 0
  | _ => 0

abbrev hbmTy0_0 (i : Nat) : BufTy := match i % 128 with
  | 0 => ⟨S8192x768, .f32⟩
  | 1 => ⟨S64x768, .f32⟩
  | 2 => ⟨S768x64, .f32⟩
  | 3 => ⟨S8192x64, .f32⟩
  | 4 => ⟨S_, .f32⟩
  | 5 => ⟨S8192, .f32⟩
  | 6 => ⟨S_, .f32⟩
  | 7 => ⟨S8192, .f32⟩
  | 8 => ⟨S8192, .f32⟩
  | 9 => ⟨S8192x1, .f32⟩
  | 10 => ⟨S8192x64, .f32⟩
  | 11 => ⟨S8192x64, .f32⟩
  | 12 => ⟨S8192x64, .f32⟩
  | 13 => ⟨S_, .f32⟩
  | 14 => ⟨S8192, .f32⟩
  | 15 => ⟨S8192x1, .f32⟩
  | 16 => ⟨S8192x64, .f32⟩
  | 17 => ⟨S8192x64, .f32⟩
  | 18 => ⟨S8192x64, .i32⟩
  | 19 => ⟨S_, .f32⟩
  | 20 => ⟨S_, .i32⟩
  | 21 => ⟨S8192, .f32⟩
  | 22 => ⟨S8192, .i32⟩
  | 23 => ⟨S8192x1, .i32⟩
  | 24 => ⟨S1x64, .i32⟩
  | 25 => ⟨S8192x64, .i32⟩
  | 26 => ⟨S8192x64, .i32⟩
  | 27 => ⟨S8192x64, .i1⟩
  | 28 => ⟨S8192x64, .i32⟩
  | 29 => ⟨S_, .i32⟩
  | 30 => ⟨S64, .i32⟩
  | 31 => ⟨S_, .f32⟩
  | 32 => ⟨S64, .f32⟩
  | 33 => ⟨S_, .f32⟩
  | 34 => ⟨S64, .f32⟩
  | 35 => ⟨S64, .f32⟩
  | 36 => ⟨S8192x64, .f32⟩
  | 37 => ⟨S_, .f32⟩
  | 38 => ⟨S64, .f32⟩
  | 39 => ⟨S_, .f32⟩
  | 40 => ⟨S64, .f32⟩
  | 41 => ⟨S64, .f32⟩
  | 42 => ⟨S64, .f32⟩
  | 43 => ⟨S_, .f32⟩
  | 44 => ⟨S_, .f32⟩
  | 45 => ⟨S_, .f32⟩
  | 46 => ⟨S_, .f32⟩
  | 47 => ⟨S_, .i32⟩
  | 48 => ⟨S_, .i32⟩
  | 49 => ⟨S_, .i32⟩
  | 50 => ⟨S_, .i32⟩
  | 51 => ⟨S1, .i32⟩
  | 52 => ⟨S_, .i32⟩
  | 53 => ⟨S_, .i32⟩
  | 54 => ⟨S_, .i32⟩
  | 55 => ⟨S1, .i32⟩
  | 56 => ⟨S2, .i32⟩
  | 57 => ⟨S_, .f32⟩
  | 58 => ⟨S_, .f32⟩
  | 59 => ⟨S_, .f32⟩
  | 60 => ⟨S_, .f32⟩
  | 61 => ⟨S1x1, .f32⟩
  | 62 => ⟨S1x1, .f32⟩
  | 63 => ⟨S1, .i32⟩
  | 64 => ⟨S_, .i32⟩
  | 65 => ⟨S1, .i32⟩
  | 66 => ⟨S_, .i32⟩
  | 67 => ⟨S8192x64, .i64⟩
  | 68 => ⟨S8192x64, .i64⟩
  | 69 => ⟨S_, .i64⟩
  | 70 => ⟨S8192x64, .i64⟩
  | 71 => ⟨S8192x64, .i64⟩
  | 72 => ⟨S_, .i64⟩
  | 73 => ⟨S8192x64, .i64⟩
  | 74 => ⟨S8192x64, .i64⟩
  | 75 => ⟨S8192x64, .i64⟩
  | 76 => ⟨S_, .i64⟩
  | 77 => ⟨S8192x64, .i64⟩
  | 78 => ⟨S8192x64, .i64⟩
  | 79 => ⟨S8192x64, .i32⟩
  | 80 => ⟨S8192x64, .i32⟩
  | 81 => ⟨S_, .i32⟩
  | 82 => ⟨S_, .i32⟩
  | 83 => ⟨S_, .i32⟩
  | 84 => ⟨S8192x64, .i32⟩
  | 85 => ⟨S8192x64, .i32⟩
  | 86 => ⟨S8192x64, .i32⟩
  | 87 => ⟨S8192x64, .i32⟩
  | 88 => ⟨S8192x64, .i32⟩
  | 89 => ⟨S_, .i32⟩
  | 90 => ⟨S8192x64, .i32⟩
  | 91 => ⟨S8192x64, .i32⟩
  | 92 => ⟨S_, .i32⟩
  | 93 => ⟨S8192x64, .i32⟩
  | 94 => ⟨S8192x64, .i32⟩
  | 95 => ⟨S8192x64, .i32⟩
  | 96 => ⟨S8192x64, .i32⟩
  | 97 => ⟨S8192x64, .i32⟩
  | 98 => ⟨S_, .i32⟩
  | 99 => ⟨S8192x64, .i32⟩
  | 100 => ⟨S8192x64, .i32⟩
  | 101 => ⟨S_, .i32⟩
  | 102 => ⟨S8192x64, .i32⟩
  | 103 => ⟨S8192x64, .i32⟩
  | 104 => ⟨S8192x64, .i32⟩
  | 105 => ⟨S8192x64, .i32⟩
  | 106 => ⟨S8192x64, .i32⟩
  | 107 => ⟨S_, .i32⟩
  | 108 => ⟨S8192x64, .i32⟩
  | 109 => ⟨S8192x64, .i32⟩
  | 110 => ⟨S_, .i32⟩
  | 111 => ⟨S8192x64, .i32⟩
  | 112 => ⟨S8192x64, .i32⟩
  | 113 => ⟨S8192x64, .i32⟩
  | 114 => ⟨S8192x64, .i32⟩
  | 115 => ⟨S8192x64, .i32⟩
  | 116 => ⟨S_, .i32⟩
  | 117 => ⟨S8192x64, .i32⟩
  | 118 => ⟨S8192x64, .i32⟩
  | 119 => ⟨S_, .i32⟩
  | 120 => ⟨S8192x64, .i32⟩
  | 121 => ⟨S8192x64, .i32⟩
  | 122 => ⟨S8192x64, .i32⟩
  | 123 => ⟨S8192x64, .i32⟩
  | 124 => ⟨S8192x64, .i32⟩
  | 125 => ⟨S8192x64, .i32⟩
  | 126 => ⟨S8192x64, .i32⟩
  | 127 => ⟨S8192x64, .i32⟩
  | _ => ⟨S8192x768, .f32⟩

abbrev hbmTy0_1 (i : Nat) : BufTy := match i % 128 with
  | 0 => ⟨S_, .i32⟩
  | 1 => ⟨S8192x64, .i32⟩
  | 2 => ⟨S8192x64, .i32⟩
  | 3 => ⟨S8192x64, .i32⟩
  | 4 => ⟨S_, .i32⟩
  | 5 => ⟨S8192x64, .i32⟩
  | 6 => ⟨S8192x64, .i32⟩
  | 7 => ⟨S_, .i32⟩
  | 8 => ⟨S8192x64, .i32⟩
  | 9 => ⟨S8192x64, .i32⟩
  | 10 => ⟨S8192x64, .i32⟩
  | 11 => ⟨S8192x64, .i32⟩
  | 12 => ⟨S8192x64, .i32⟩
  | 13 => ⟨S_, .i32⟩
  | 14 => ⟨S8192x64, .i32⟩
  | 15 => ⟨S8192x64, .i32⟩
  | 16 => ⟨S_, .i32⟩
  | 17 => ⟨S8192x64, .i32⟩
  | 18 => ⟨S8192x64, .i32⟩
  | 19 => ⟨S8192x64, .i32⟩
  | 20 => ⟨S8192x64, .i32⟩
  | 21 => ⟨S8192x64, .i32⟩
  | 22 => ⟨S_, .i32⟩
  | 23 => ⟨S8192x64, .i32⟩
  | 24 => ⟨S8192x64, .i32⟩
  | 25 => ⟨S_, .i32⟩
  | 26 => ⟨S8192x64, .i32⟩
  | 27 => ⟨S8192x64, .i32⟩
  | 28 => ⟨S8192x64, .i32⟩
  | 29 => ⟨S8192x64, .i32⟩
  | 30 => ⟨S8192x64, .i32⟩
  | 31 => ⟨S_, .i32⟩
  | 32 => ⟨S8192x64, .i32⟩
  | 33 => ⟨S8192x64, .i32⟩
  | 34 => ⟨S_, .i32⟩
  | 35 => ⟨S8192x64, .i32⟩
  | 36 => ⟨S8192x64, .i32⟩
  | 37 => ⟨S8192x64, .i32⟩
  | 38 => ⟨S8192x64, .i32⟩
  | 39 => ⟨S8192x64, .i32⟩
  | 40 => ⟨S8192x64, .i32⟩
  | 41 => ⟨S8192x64, .i32⟩
  | 42 => ⟨S8192x64, .i32⟩
  | 43 => ⟨S_, .i32⟩
  | 44 => ⟨S8192x64, .i32⟩
  | 45 => ⟨S8192x64, .i32⟩
  | 46 => ⟨S8192x64, .i32⟩
  | 47 => ⟨S_, .i32⟩
  | 48 => ⟨S8192x64, .i32⟩
  | 49 => ⟨S8192x64, .i32⟩
  | 50 => ⟨S_, .i32⟩
  | 51 => ⟨S8192x64, .i32⟩
  | 52 => ⟨S8192x64, .i32⟩
  | 53 => ⟨S8192x64, .i32⟩
  | 54 => ⟨S8192x64, .i32⟩
  | 55 => ⟨S8192x64, .i32⟩
  | 56 => ⟨S_, .i32⟩
  | 57 => ⟨S8192x64, .i32⟩
  | 58 => ⟨S8192x64, .i32⟩
  | 59 => ⟨S_, .i32⟩
  | 60 => ⟨S8192x64, .i32⟩
  | 61 => ⟨S8192x64, .i32⟩
  | 62 => ⟨S8192x64, .i32⟩
  | 63 => ⟨S8192x64, .i32⟩
  | 64 => ⟨S8192x64, .i32⟩
  | 65 => ⟨S_, .i32⟩
  | 66 => ⟨S8192x64, .i32⟩
  | 67 => ⟨S8192x64, .i32⟩
  | 68 => ⟨S_, .i32⟩
  | 69 => ⟨S8192x64, .i32⟩
  | 70 => ⟨S8192x64, .i32⟩
  | 71 => ⟨S8192x64, .i32⟩
  | 72 => ⟨S8192x64, .i32⟩
  | 73 => ⟨S8192x64, .i32⟩
  | 74 => ⟨S_, .i32⟩
  | 75 => ⟨S8192x64, .i32⟩
  | 76 => ⟨S8192x64, .i32⟩
  | 77 => ⟨S_, .i32⟩
  | 78 => ⟨S8192x64, .i32⟩
  | 79 => ⟨S8192x64, .i32⟩
  | 80 => ⟨S8192x64, .i32⟩
  | 81 => ⟨S8192x64, .i32⟩
  | 82 => ⟨S8192x64, .i32⟩
  | 83 => ⟨S8192x64, .i32⟩
  | 84 => ⟨S8192x64, .i32⟩
  | 85 => ⟨S8192x64, .i32⟩
  | 86 => ⟨S_, .i32⟩
  | 87 => ⟨S8192x64, .i32⟩
  | 88 => ⟨S8192x64, .i32⟩
  | 89 => ⟨S8192x64, .i32⟩
  | 90 => ⟨S_, .i32⟩
  | 91 => ⟨S8192x64, .i32⟩
  | 92 => ⟨S8192x64, .i32⟩
  | 93 => ⟨S_, .i32⟩
  | 94 => ⟨S8192x64, .i32⟩
  | 95 => ⟨S8192x64, .i32⟩
  | 96 => ⟨S8192x64, .i32⟩
  | 97 => ⟨S8192x64, .i32⟩
  | 98 => ⟨S8192x64, .i32⟩
  | 99 => ⟨S_, .i32⟩
  | 100 => ⟨S8192x64, .i32⟩
  | 101 => ⟨S8192x64, .i32⟩
  | 102 => ⟨S_, .i32⟩
  | 103 => ⟨S8192x64, .i32⟩
  | 104 => ⟨S8192x64, .i32⟩
  | 105 => ⟨S8192x64, .i32⟩
  | 106 => ⟨S8192x64, .i32⟩
  | 107 => ⟨S8192x64, .i32⟩
  | 108 => ⟨S_, .i32⟩
  | 109 => ⟨S8192x64, .i32⟩
  | 110 => ⟨S8192x64, .i32⟩
  | 111 => ⟨S_, .i32⟩
  | 112 => ⟨S8192x64, .i32⟩
  | 113 => ⟨S8192x64, .i32⟩
  | 114 => ⟨S8192x64, .i32⟩
  | 115 => ⟨S8192x64, .i32⟩
  | 116 => ⟨S8192x64, .i32⟩
  | 117 => ⟨S_, .i32⟩
  | 118 => ⟨S8192x64, .i32⟩
  | 119 => ⟨S8192x64, .i32⟩
  | 120 => ⟨S_, .i32⟩
  | 121 => ⟨S8192x64, .i32⟩
  | 122 => ⟨S8192x64, .i32⟩
  | 123 => ⟨S8192x64, .i32⟩
  | 124 => ⟨S8192x64, .i32⟩
  | 125 => ⟨S8192x64, .i32⟩
  | 126 => ⟨S8192x64, .i32⟩
  | 127 => ⟨S8192x64, .i32⟩
  | _ => ⟨S8192x768, .f32⟩

abbrev hbmTy0_2 (i : Nat) : BufTy := match i % 128 with
  | 0 => ⟨S8192x64, .i32⟩
  | 1 => ⟨S_, .i32⟩
  | 2 => ⟨S8192x64, .i32⟩
  | 3 => ⟨S8192x64, .i32⟩
  | 4 => ⟨S8192x64, .i32⟩
  | 5 => ⟨S_, .i32⟩
  | 6 => ⟨S8192x64, .i32⟩
  | 7 => ⟨S8192x64, .i32⟩
  | 8 => ⟨S_, .i32⟩
  | 9 => ⟨S8192x64, .i32⟩
  | 10 => ⟨S8192x64, .i32⟩
  | 11 => ⟨S8192x64, .i32⟩
  | 12 => ⟨S8192x64, .i32⟩
  | 13 => ⟨S8192x64, .i32⟩
  | 14 => ⟨S_, .i32⟩
  | 15 => ⟨S8192x64, .i32⟩
  | 16 => ⟨S8192x64, .i32⟩
  | 17 => ⟨S_, .i32⟩
  | 18 => ⟨S8192x64, .i32⟩
  | 19 => ⟨S8192x64, .i32⟩
  | 20 => ⟨S8192x64, .i32⟩
  | 21 => ⟨S8192x64, .i32⟩
  | 22 => ⟨S8192x64, .i32⟩
  | 23 => ⟨S_, .i32⟩
  | 24 => ⟨S8192x64, .i32⟩
  | 25 => ⟨S8192x64, .i32⟩
  | 26 => ⟨S_, .i32⟩
  | 27 => ⟨S8192x64, .i32⟩
  | 28 => ⟨S8192x64, .i32⟩
  | 29 => ⟨S8192x64, .i32⟩
  | 30 => ⟨S8192x64, .i32⟩
  | 31 => ⟨S8192x64, .i32⟩
  | 32 => ⟨S_, .i32⟩
  | 33 => ⟨S8192x64, .i32⟩
  | 34 => ⟨S8192x64, .i32⟩
  | 35 => ⟨S_, .i32⟩
  | 36 => ⟨S8192x64, .i32⟩
  | 37 => ⟨S8192x64, .i32⟩
  | 38 => ⟨S8192x64, .i32⟩
  | 39 => ⟨S8192x64, .i32⟩
  | 40 => ⟨S8192x64, .i32⟩
  | 41 => ⟨S8192x64, .i32⟩
  | 42 => ⟨S8192x64, .i32⟩
  | 43 => ⟨S8192x64, .i32⟩
  | 44 => ⟨S_, .i32⟩
  | 45 => ⟨S8192x64, .i32⟩
  | 46 => ⟨S8192x64, .i32⟩
  | 47 => ⟨S8192x64, .i32⟩
  | 48 => ⟨S_, .i32⟩
  | 49 => ⟨S8192x64, .i32⟩
  | 50 => ⟨S8192x64, .i32⟩
  | 51 => ⟨S_, .i32⟩
  | 52 => ⟨S8192x64, .i32⟩
  | 53 => ⟨S8192x64, .i32⟩
  | 54 => ⟨S8192x64, .f32⟩
  | 55 => ⟨S_, .f32⟩
  | 56 => ⟨S8192x64, .f32⟩
  | 57 => ⟨S8192x64, .f32⟩
  | 58 => ⟨S1x1, .f32⟩
  | 59 => ⟨S8192x64, .f32⟩
  | 60 => ⟨S8192x64, .f32⟩
  | 61 => ⟨S8192x64, .f32⟩
  | 62 => ⟨S8192x64, .f32⟩
  | 63 => ⟨S8192x64, .f32⟩
  | 64 => ⟨S8192x64, .f32⟩
  | 65 => ⟨S8192x64, .f32⟩
  | 66 => ⟨S8192x64, .f32⟩
  | 67 => ⟨S64x8192, .f32⟩
  | 68 => ⟨S64x128, .f32⟩
  | 69 => ⟨S64x128, .i32⟩
  | 70 => ⟨S_, .i32⟩
  | 71 => ⟨S8192x64, .i32⟩
  | 72 => ⟨S128x64, .i32⟩
  | 73 => ⟨S64, .i32⟩
  | 74 => ⟨S1x64, .i32⟩
  | 75 => ⟨S_, .i32⟩
  | 76 => ⟨S128x64, .i32⟩
  | 77 => ⟨S128x64, .i1⟩
  | 78 => ⟨S_, .i32⟩
  | 79 => ⟨S128x64, .i32⟩
  | 80 => ⟨S128x64, .i32⟩
  | 81 => ⟨S128x64, .i32⟩
  | 82 => ⟨S_, .i32⟩
  | 83 => ⟨S1x64, .i32⟩
  | 84 => ⟨S1x64, .i1⟩
  | 85 => ⟨S_, .i32⟩
  | 86 => ⟨S1x64, .i32⟩
  | 87 => ⟨S1x64, .i32⟩
  | 88 => ⟨S1x64, .i32⟩
  | 89 => ⟨S128x64, .i32⟩
  | 90 => ⟨S128x64x1, .i32⟩
  | 91 => ⟨S128x64x1, .i32⟩
  | 92 => ⟨S128x64x2, .i32⟩
  | 93 => ⟨S_, .i32⟩
  | 94 => ⟨S128x64, .i32⟩
  | 95 => ⟨S8192x64, .i32⟩
  | 96 => ⟨S8192x64, .i32⟩
  | 97 => ⟨S_, .i32⟩
  | 98 => ⟨S_, .i32⟩
  | 99 => ⟨S8192x64, .i32⟩
  | 100 => ⟨S_, .i32⟩
  | 101 => ⟨S8192x64, .i32⟩
  | 102 => ⟨S8192x64, .i32⟩
  | 103 => ⟨S8192x64, .i32⟩
  | 104 => ⟨S_, .i32⟩
  | 105 => ⟨S8192, .i32⟩
  | 106 => ⟨S8192x64, .f32⟩
  | 107 => ⟨S8192x64, .f32⟩
  | 108 => ⟨S8192x1, .i32⟩
  | 109 => ⟨S1x128, .i32⟩
  | 110 => ⟨S8192x128, .i32⟩
  | 111 => ⟨S8192x128, .i32⟩
  | 112 => ⟨S8192x128, .i1⟩
  | 113 => ⟨S8192x128, .f32⟩
  | 114 => ⟨S8192x64x1, .f32⟩
  | 115 => ⟨S8192x1x128, .f32⟩
  | 116 => ⟨S8192x64x128, .f32⟩
  | 117 => ⟨S8192x64x128, .f32⟩
  | 118 => ⟨S8192x64x128, .f32⟩
  | 119 => ⟨S_, .f32⟩
  | 120 => ⟨S8192x64x128, .f32⟩
  | 121 => ⟨S8192x64x128, .i1⟩
  | 122 => ⟨S8192x64x128, .i1⟩
  | _ => ⟨S8192x768, .f32⟩

abbrev hbmTy (i : Nat) : BufTy := match i / 128 with
  | 0 => hbmTy0_0 i
  | 1 => hbmTy0_1 i
  | 2 => hbmTy0_2 i
  | _ => ⟨S8192x768, .f32⟩

abbrev bufTy : (tb : Table) → Fin (tcTables nBuf tb) → BufTy
  | .hbm, ⟨i, _⟩ => hbmTy i
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_cst : Ref sig .tc := ⟨.hbm, 19, rfl⟩
abbrev main_call0_c : Ref sig .tc := ⟨.hbm, 20, rfl⟩
abbrev main_call0_v1_0 : Ref sig .tc := ⟨.hbm, 21, rfl⟩
abbrev main_v13 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_6 : Ref sig .tc := ⟨.hbm, 43, rfl⟩
abbrev main_v24 : Ref sig .tc := ⟨.hbm, 44, rfl⟩
abbrev main_cst_7 : Ref sig .tc := ⟨.hbm, 45, rfl⟩
abbrev main_v25 : Ref sig .tc := ⟨.hbm, 46, rfl⟩
abbrev main_c_8 : Ref sig .tc := ⟨.hbm, 47, rfl⟩
abbrev main_c_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_11 : Ref sig .tc := ⟨.hbm, 57, rfl⟩
abbrev main_cst_12 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_c : Ref sig .tc := ⟨.hbm, 69, rfl⟩
abbrev main_call2_v10 : Ref sig .tc := ⟨.hbm, 70, rfl⟩
abbrev main_call2_v11 : Ref sig .tc := ⟨.hbm, 71, rfl⟩
abbrev main_call2_c_0 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_call2_c_1 : Ref sig .tc := ⟨.hbm, 76, rfl⟩
abbrev main_call2_v15 : Ref sig .tc := ⟨.hbm, 77, rfl⟩
abbrev main_call2_v16 : Ref sig .tc := ⟨.hbm, 78, rfl⟩
abbrev main_call2_v17 : Ref sig .tc := ⟨.hbm, 79, rfl⟩
abbrev main_call2_v18 : Ref sig .tc := ⟨.hbm, 80, rfl⟩
abbrev main_call2_call0_v0 : Ref sig .tc := ⟨.hbm, 81, rfl⟩
abbrev main_call2_call0_c : Ref sig .tc := ⟨.hbm, 82, rfl⟩
abbrev main_call2_call0_v1 : Ref sig .tc := ⟨.hbm, 83, rfl⟩
abbrev main_call2_call0_v2 : Ref sig .tc := ⟨.hbm, 84, rfl⟩
abbrev main_call2_call0_v3 : Ref sig .tc := ⟨.hbm, 85, rfl⟩
abbrev main_call2_call0_v4 : Ref sig .tc := ⟨.hbm, 86, rfl⟩
abbrev main_call2_call0_v5 : Ref sig .tc := ⟨.hbm, 87, rfl⟩
abbrev main_call2_call0_v6 : Ref sig .tc := ⟨.hbm, 88, rfl⟩
abbrev main_call2_call0_c_0 : Ref sig .tc := ⟨.hbm, 89, rfl⟩
abbrev main_call2_call0_v7 : Ref sig .tc := ⟨.hbm, 90, rfl⟩
abbrev main_call2_call0_v8 : Ref sig .tc := ⟨.hbm, 91, rfl⟩
abbrev main_call2_call0_c_1 : Ref sig .tc := ⟨.hbm, 92, rfl⟩
abbrev main_call2_call0_v9 : Ref sig .tc := ⟨.hbm, 93, rfl⟩
abbrev main_call2_call0_v10 : Ref sig .tc := ⟨.hbm, 94, rfl⟩
abbrev main_call2_call0_v11 : Ref sig .tc := ⟨.hbm, 95, rfl⟩
abbrev main_call2_call0_v12 : Ref sig .tc := ⟨.hbm, 96, rfl⟩
abbrev main_call2_call0_v13 : Ref sig .tc := ⟨.hbm, 97, rfl⟩
abbrev main_call2_call0_c_2 : Ref sig .tc := ⟨.hbm, 98, rfl⟩
abbrev main_call2_call0_v14 : Ref sig .tc := ⟨.hbm, 99, rfl⟩
abbrev main_call2_call0_v15 : Ref sig .tc := ⟨.hbm, 100, rfl⟩
abbrev main_call2_call0_c_3 : Ref sig .tc := ⟨.hbm, 101, rfl⟩
abbrev main_call2_call0_v16 : Ref sig .tc := ⟨.hbm, 102, rfl⟩
abbrev main_call2_call0_v17 : Ref sig .tc := ⟨.hbm, 103, rfl⟩
abbrev main_call2_call0_v18 : Ref sig .tc := ⟨.hbm, 104, rfl⟩
abbrev main_call2_call0_v19 : Ref sig .tc := ⟨.hbm, 105, rfl⟩
abbrev main_call2_call0_v20 : Ref sig .tc := ⟨.hbm, 106, rfl⟩
abbrev main_call2_call0_c_4 : Ref sig .tc := ⟨.hbm, 107, rfl⟩
abbrev main_call2_call0_v21 : Ref sig .tc := ⟨.hbm, 108, rfl⟩
abbrev main_call2_call0_v22 : Ref sig .tc := ⟨.hbm, 109, rfl⟩
abbrev main_call2_call0_c_5 : Ref sig .tc := ⟨.hbm, 110, rfl⟩
abbrev main_call2_call0_v23 : Ref sig .tc := ⟨.hbm, 111, rfl⟩
abbrev main_call2_call0_v24 : Ref sig .tc := ⟨.hbm, 112, rfl⟩
abbrev main_call2_call0_v25 : Ref sig .tc := ⟨.hbm, 113, rfl⟩
abbrev main_call2_call0_v26 : Ref sig .tc := ⟨.hbm, 114, rfl⟩
abbrev main_call2_call0_v27 : Ref sig .tc := ⟨.hbm, 115, rfl⟩
abbrev main_call2_call0_c_6 : Ref sig .tc := ⟨.hbm, 116, rfl⟩
abbrev main_call2_call0_v28 : Ref sig .tc := ⟨.hbm, 117, rfl⟩
abbrev main_call2_call0_v29 : Ref sig .tc := ⟨.hbm, 118, rfl⟩
abbrev main_call2_call0_c_7 : Ref sig .tc := ⟨.hbm, 119, rfl⟩
abbrev main_call2_call0_v30 : Ref sig .tc := ⟨.hbm, 120, rfl⟩
abbrev main_call2_call0_v31 : Ref sig .tc := ⟨.hbm, 121, rfl⟩
abbrev main_call2_call0_v32 : Ref sig .tc := ⟨.hbm, 122, rfl⟩
abbrev main_call2_call0_v33 : Ref sig .tc := ⟨.hbm, 123, rfl⟩
abbrev main_call2_call0_v34 : Ref sig .tc := ⟨.hbm, 124, rfl⟩
abbrev main_call2_call0_v35 : Ref sig .tc := ⟨.hbm, 125, rfl⟩
abbrev main_call2_call0_v36 : Ref sig .tc := ⟨.hbm, 126, rfl⟩
abbrev main_call2_call0_v37 : Ref sig .tc := ⟨.hbm, 127, rfl⟩
abbrev main_call2_call0_c_8 : Ref sig .tc := ⟨.hbm, 128, rfl⟩
abbrev main_call2_call0_v38 : Ref sig .tc := ⟨.hbm, 129, rfl⟩
abbrev main_call2_call0_v39 : Ref sig .tc := ⟨.hbm, 130, rfl⟩
abbrev main_call2_call0_v40 : Ref sig .tc := ⟨.hbm, 131, rfl⟩
abbrev main_call2_call0_c_9 : Ref sig .tc := ⟨.hbm, 132, rfl⟩
abbrev main_call2_call0_v41 : Ref sig .tc := ⟨.hbm, 133, rfl⟩
abbrev main_call2_call0_v42 : Ref sig .tc := ⟨.hbm, 134, rfl⟩
abbrev main_call2_call0_c_10 : Ref sig .tc := ⟨.hbm, 135, rfl⟩
abbrev main_call2_call0_v43 : Ref sig .tc := ⟨.hbm, 136, rfl⟩
abbrev main_call2_call0_v44 : Ref sig .tc := ⟨.hbm, 137, rfl⟩
abbrev main_call2_call0_v45 : Ref sig .tc := ⟨.hbm, 138, rfl⟩
abbrev main_call2_call0_v46 : Ref sig .tc := ⟨.hbm, 139, rfl⟩
abbrev main_call2_call0_v47 : Ref sig .tc := ⟨.hbm, 140, rfl⟩
abbrev main_call2_call0_c_11 : Ref sig .tc := ⟨.hbm, 141, rfl⟩
abbrev main_call2_call0_v48 : Ref sig .tc := ⟨.hbm, 142, rfl⟩
abbrev main_call2_call0_v49 : Ref sig .tc := ⟨.hbm, 143, rfl⟩
abbrev main_call2_call0_c_12 : Ref sig .tc := ⟨.hbm, 144, rfl⟩
abbrev main_call2_call0_v50 : Ref sig .tc := ⟨.hbm, 145, rfl⟩
abbrev main_call2_call0_v51 : Ref sig .tc := ⟨.hbm, 146, rfl⟩
abbrev main_call2_call0_v52 : Ref sig .tc := ⟨.hbm, 147, rfl⟩
abbrev main_call2_call0_v53 : Ref sig .tc := ⟨.hbm, 148, rfl⟩
abbrev main_call2_call0_v54 : Ref sig .tc := ⟨.hbm, 149, rfl⟩
abbrev main_call2_call0_c_13 : Ref sig .tc := ⟨.hbm, 150, rfl⟩
abbrev main_call2_call0_v55 : Ref sig .tc := ⟨.hbm, 151, rfl⟩
abbrev main_call2_call0_v56 : Ref sig .tc := ⟨.hbm, 152, rfl⟩
abbrev main_call2_call0_c_14 : Ref sig .tc := ⟨.hbm, 153, rfl⟩
abbrev main_call2_call0_v57 : Ref sig .tc := ⟨.hbm, 154, rfl⟩
abbrev main_call2_call0_v58 : Ref sig .tc := ⟨.hbm, 155, rfl⟩
abbrev main_call2_call0_v59 : Ref sig .tc := ⟨.hbm, 156, rfl⟩
abbrev main_call2_call0_v60 : Ref sig .tc := ⟨.hbm, 157, rfl⟩
abbrev main_call2_call0_v61 : Ref sig .tc := ⟨.hbm, 158, rfl⟩
abbrev main_call2_call0_c_15 : Ref sig .tc := ⟨.hbm, 159, rfl⟩
abbrev main_call2_call0_v62 : Ref sig .tc := ⟨.hbm, 160, rfl⟩
abbrev main_call2_call0_v63 : Ref sig .tc := ⟨.hbm, 161, rfl⟩
abbrev main_call2_call0_c_16 : Ref sig .tc := ⟨.hbm, 162, rfl⟩
abbrev main_call2_call0_v64 : Ref sig .tc := ⟨.hbm, 163, rfl⟩
abbrev main_call2_call0_v65 : Ref sig .tc := ⟨.hbm, 164, rfl⟩
abbrev main_call2_call0_v66 : Ref sig .tc := ⟨.hbm, 165, rfl⟩
abbrev main_call2_call0_v67 : Ref sig .tc := ⟨.hbm, 166, rfl⟩
abbrev main_call2_call0_v68 : Ref sig .tc := ⟨.hbm, 167, rfl⟩
abbrev main_call2_call0_v69 : Ref sig .tc := ⟨.hbm, 168, rfl⟩
abbrev main_call2_call0_v70 : Ref sig .tc := ⟨.hbm, 169, rfl⟩
abbrev main_call2_call0_v71 : Ref sig .tc := ⟨.hbm, 170, rfl⟩
abbrev main_call2_call0_c_17 : Ref sig .tc := ⟨.hbm, 171, rfl⟩
abbrev main_call2_call0_v72 : Ref sig .tc := ⟨.hbm, 172, rfl⟩
abbrev main_call2_call0_v73 : Ref sig .tc := ⟨.hbm, 173, rfl⟩
abbrev main_call2_call0_v74 : Ref sig .tc := ⟨.hbm, 174, rfl⟩
abbrev main_call2_call0_c_18 : Ref sig .tc := ⟨.hbm, 175, rfl⟩
abbrev main_call2_call0_v75 : Ref sig .tc := ⟨.hbm, 176, rfl⟩
abbrev main_call2_call0_v76 : Ref sig .tc := ⟨.hbm, 177, rfl⟩
abbrev main_call2_call0_c_19 : Ref sig .tc := ⟨.hbm, 178, rfl⟩
abbrev main_call2_call0_v77 : Ref sig .tc := ⟨.hbm, 179, rfl⟩
abbrev main_call2_call0_v78 : Ref sig .tc := ⟨.hbm, 180, rfl⟩
abbrev main_call2_call0_v79 : Ref sig .tc := ⟨.hbm, 181, rfl⟩
abbrev main_call2_call0_v80 : Ref sig .tc := ⟨.hbm, 182, rfl⟩
abbrev main_call2_call0_v81 : Ref sig .tc := ⟨.hbm, 183, rfl⟩
abbrev main_call2_call0_c_20 : Ref sig .tc := ⟨.hbm, 184, rfl⟩
abbrev main_call2_call0_v82 : Ref sig .tc := ⟨.hbm, 185, rfl⟩
abbrev main_call2_call0_v83 : Ref sig .tc := ⟨.hbm, 186, rfl⟩
abbrev main_call2_call0_c_21 : Ref sig .tc := ⟨.hbm, 187, rfl⟩
abbrev main_call2_call0_v84 : Ref sig .tc := ⟨.hbm, 188, rfl⟩
abbrev main_call2_call0_v85 : Ref sig .tc := ⟨.hbm, 189, rfl⟩
abbrev main_call2_call0_v86 : Ref sig .tc := ⟨.hbm, 190, rfl⟩
abbrev main_call2_call0_v87 : Ref sig .tc := ⟨.hbm, 191, rfl⟩
abbrev main_call2_call0_v88 : Ref sig .tc := ⟨.hbm, 192, rfl⟩
abbrev main_call2_call0_c_22 : Ref sig .tc := ⟨.hbm, 193, rfl⟩
abbrev main_call2_call0_v89 : Ref sig .tc := ⟨.hbm, 194, rfl⟩
abbrev main_call2_call0_v90 : Ref sig .tc := ⟨.hbm, 195, rfl⟩
abbrev main_call2_call0_c_23 : Ref sig .tc := ⟨.hbm, 196, rfl⟩
abbrev main_call2_call0_v91 : Ref sig .tc := ⟨.hbm, 197, rfl⟩
abbrev main_call2_call0_v92 : Ref sig .tc := ⟨.hbm, 198, rfl⟩
abbrev main_call2_call0_v93 : Ref sig .tc := ⟨.hbm, 199, rfl⟩
abbrev main_call2_call0_v94 : Ref sig .tc := ⟨.hbm, 200, rfl⟩
abbrev main_call2_call0_v95 : Ref sig .tc := ⟨.hbm, 201, rfl⟩
abbrev main_call2_call0_c_24 : Ref sig .tc := ⟨.hbm, 202, rfl⟩
abbrev main_call2_call0_v96 : Ref sig .tc := ⟨.hbm, 203, rfl⟩
abbrev main_call2_call0_v97 : Ref sig .tc := ⟨.hbm, 204, rfl⟩
abbrev main_call2_call0_c_25 : Ref sig .tc := ⟨.hbm, 205, rfl⟩
abbrev main_call2_call0_v98 : Ref sig .tc := ⟨.hbm, 206, rfl⟩
abbrev main_call2_call0_v99 : Ref sig .tc := ⟨.hbm, 207, rfl⟩
abbrev main_call2_call0_v100 : Ref sig .tc := ⟨.hbm, 208, rfl⟩
abbrev main_call2_call0_v101 : Ref sig .tc := ⟨.hbm, 209, rfl⟩
abbrev main_call2_call0_v102 : Ref sig .tc := ⟨.hbm, 210, rfl⟩
abbrev main_call2_call0_v103 : Ref sig .tc := ⟨.hbm, 211, rfl⟩
abbrev main_call2_call0_v104 : Ref sig .tc := ⟨.hbm, 212, rfl⟩
abbrev main_call2_call0_v105 : Ref sig .tc := ⟨.hbm, 213, rfl⟩
abbrev main_call2_call0_c_26 : Ref sig .tc := ⟨.hbm, 214, rfl⟩
abbrev main_call2_call0_v106 : Ref sig .tc := ⟨.hbm, 215, rfl⟩
abbrev main_call2_call0_v107 : Ref sig .tc := ⟨.hbm, 216, rfl⟩
abbrev main_call2_call0_v108 : Ref sig .tc := ⟨.hbm, 217, rfl⟩
abbrev main_call2_call0_c_27 : Ref sig .tc := ⟨.hbm, 218, rfl⟩
abbrev main_call2_call0_v109 : Ref sig .tc := ⟨.hbm, 219, rfl⟩
abbrev main_call2_call0_v110 : Ref sig .tc := ⟨.hbm, 220, rfl⟩
abbrev main_call2_call0_c_28 : Ref sig .tc := ⟨.hbm, 221, rfl⟩
abbrev main_call2_call0_v111 : Ref sig .tc := ⟨.hbm, 222, rfl⟩
abbrev main_call2_call0_v112 : Ref sig .tc := ⟨.hbm, 223, rfl⟩
abbrev main_call2_call0_v113 : Ref sig .tc := ⟨.hbm, 224, rfl⟩
abbrev main_call2_call0_v114 : Ref sig .tc := ⟨.hbm, 225, rfl⟩
abbrev main_call2_call0_v115 : Ref sig .tc := ⟨.hbm, 226, rfl⟩
abbrev main_call2_call0_c_29 : Ref sig .tc := ⟨.hbm, 227, rfl⟩
abbrev main_call2_call0_v116 : Ref sig .tc := ⟨.hbm, 228, rfl⟩
abbrev main_call2_call0_v117 : Ref sig .tc := ⟨.hbm, 229, rfl⟩
abbrev main_call2_call0_c_30 : Ref sig .tc := ⟨.hbm, 230, rfl⟩
abbrev main_call2_call0_v118 : Ref sig .tc := ⟨.hbm, 231, rfl⟩
abbrev main_call2_call0_v119 : Ref sig .tc := ⟨.hbm, 232, rfl⟩
abbrev main_call2_call0_v120 : Ref sig .tc := ⟨.hbm, 233, rfl⟩
abbrev main_call2_call0_v121 : Ref sig .tc := ⟨.hbm, 234, rfl⟩
abbrev main_call2_call0_v122 : Ref sig .tc := ⟨.hbm, 235, rfl⟩
abbrev main_call2_call0_c_31 : Ref sig .tc := ⟨.hbm, 236, rfl⟩
abbrev main_call2_call0_v123 : Ref sig .tc := ⟨.hbm, 237, rfl⟩
abbrev main_call2_call0_v124 : Ref sig .tc := ⟨.hbm, 238, rfl⟩
abbrev main_call2_call0_c_32 : Ref sig .tc := ⟨.hbm, 239, rfl⟩
abbrev main_call2_call0_v125 : Ref sig .tc := ⟨.hbm, 240, rfl⟩
abbrev main_call2_call0_v126 : Ref sig .tc := ⟨.hbm, 241, rfl⟩
abbrev main_call2_call0_v127 : Ref sig .tc := ⟨.hbm, 242, rfl⟩
abbrev main_call2_call0_v128 : Ref sig .tc := ⟨.hbm, 243, rfl⟩
abbrev main_call2_call0_v129 : Ref sig .tc := ⟨.hbm, 244, rfl⟩
abbrev main_call2_call0_c_33 : Ref sig .tc := ⟨.hbm, 245, rfl⟩
abbrev main_call2_call0_v130 : Ref sig .tc := ⟨.hbm, 246, rfl⟩
abbrev main_call2_call0_v131 : Ref sig .tc := ⟨.hbm, 247, rfl⟩
abbrev main_call2_call0_c_34 : Ref sig .tc := ⟨.hbm, 248, rfl⟩
abbrev main_call2_call0_v132 : Ref sig .tc := ⟨.hbm, 249, rfl⟩
abbrev main_call2_call0_v133 : Ref sig .tc := ⟨.hbm, 250, rfl⟩
abbrev main_call2_call0_v134 : Ref sig .tc := ⟨.hbm, 251, rfl⟩
abbrev main_call2_call0_v135 : Ref sig .tc := ⟨.hbm, 252, rfl⟩
abbrev main_call2_call0_v136 : Ref sig .tc := ⟨.hbm, 253, rfl⟩
abbrev main_call2_call0_v137 : Ref sig .tc := ⟨.hbm, 254, rfl⟩
abbrev main_call2_call0_v138 : Ref sig .tc := ⟨.hbm, 255, rfl⟩
abbrev main_call2_call0_v139 : Ref sig .tc := ⟨.hbm, 256, rfl⟩
abbrev main_call2_call0_c_35 : Ref sig .tc := ⟨.hbm, 257, rfl⟩
abbrev main_call2_call0_v140 : Ref sig .tc := ⟨.hbm, 258, rfl⟩
abbrev main_call2_call0_v141 : Ref sig .tc := ⟨.hbm, 259, rfl⟩
abbrev main_call2_call0_v142 : Ref sig .tc := ⟨.hbm, 260, rfl⟩
abbrev main_call2_call0_c_36 : Ref sig .tc := ⟨.hbm, 261, rfl⟩
abbrev main_call2_call0_v143 : Ref sig .tc := ⟨.hbm, 262, rfl⟩
abbrev main_call2_call0_v144 : Ref sig .tc := ⟨.hbm, 263, rfl⟩
abbrev main_call2_call0_c_37 : Ref sig .tc := ⟨.hbm, 264, rfl⟩
abbrev main_call2_call0_v145 : Ref sig .tc := ⟨.hbm, 265, rfl⟩
abbrev main_call2_call0_v146 : Ref sig .tc := ⟨.hbm, 266, rfl⟩
abbrev main_call2_call0_v147 : Ref sig .tc := ⟨.hbm, 267, rfl⟩
abbrev main_call2_call0_v148 : Ref sig .tc := ⟨.hbm, 268, rfl⟩
abbrev main_call2_call0_v149 : Ref sig .tc := ⟨.hbm, 269, rfl⟩
abbrev main_call2_call0_c_38 : Ref sig .tc := ⟨.hbm, 270, rfl⟩
abbrev main_call2_call0_v150 : Ref sig .tc := ⟨.hbm, 271, rfl⟩
abbrev main_call2_call0_v151 : Ref sig .tc := ⟨.hbm, 272, rfl⟩
abbrev main_call2_call0_c_39 : Ref sig .tc := ⟨.hbm, 273, rfl⟩
abbrev main_call2_call0_v152 : Ref sig .tc := ⟨.hbm, 274, rfl⟩
abbrev main_call2_call0_v153 : Ref sig .tc := ⟨.hbm, 275, rfl⟩
abbrev main_call2_call0_v154 : Ref sig .tc := ⟨.hbm, 276, rfl⟩
abbrev main_call2_call0_v155 : Ref sig .tc := ⟨.hbm, 277, rfl⟩
abbrev main_call2_call0_v156 : Ref sig .tc := ⟨.hbm, 278, rfl⟩
abbrev main_call2_call0_c_40 : Ref sig .tc := ⟨.hbm, 279, rfl⟩
abbrev main_call2_call0_v157 : Ref sig .tc := ⟨.hbm, 280, rfl⟩
abbrev main_call2_call0_v158 : Ref sig .tc := ⟨.hbm, 281, rfl⟩
abbrev main_call2_call0_c_41 : Ref sig .tc := ⟨.hbm, 282, rfl⟩
abbrev main_call2_call0_v159 : Ref sig .tc := ⟨.hbm, 283, rfl⟩
abbrev main_call2_call0_v160 : Ref sig .tc := ⟨.hbm, 284, rfl⟩
abbrev main_call2_call0_v161 : Ref sig .tc := ⟨.hbm, 285, rfl⟩
abbrev main_call2_call0_v162 : Ref sig .tc := ⟨.hbm, 286, rfl⟩
abbrev main_call2_call0_v163 : Ref sig .tc := ⟨.hbm, 287, rfl⟩
abbrev main_call2_call0_c_42 : Ref sig .tc := ⟨.hbm, 288, rfl⟩
abbrev main_call2_call0_v164 : Ref sig .tc := ⟨.hbm, 289, rfl⟩
abbrev main_call2_call0_v165 : Ref sig .tc := ⟨.hbm, 290, rfl⟩
abbrev main_call2_call0_c_43 : Ref sig .tc := ⟨.hbm, 291, rfl⟩
abbrev main_call2_call0_v166 : Ref sig .tc := ⟨.hbm, 292, rfl⟩
abbrev main_call2_call0_v167 : Ref sig .tc := ⟨.hbm, 293, rfl⟩
abbrev main_call2_call0_v168 : Ref sig .tc := ⟨.hbm, 294, rfl⟩
abbrev main_call2_call0_v169 : Ref sig .tc := ⟨.hbm, 295, rfl⟩
abbrev main_call2_call0_v170 : Ref sig .tc := ⟨.hbm, 296, rfl⟩
abbrev main_call2_v19_0 : Ref sig .tc := ⟨.hbm, 297, rfl⟩
abbrev main_call2_call0_v172 : Ref sig .tc := ⟨.hbm, 298, rfl⟩
abbrev main_call2_call0_v173 : Ref sig .tc := ⟨.hbm, 299, rfl⟩
abbrev main_call2_call0_c_44 : Ref sig .tc := ⟨.hbm, 300, rfl⟩
abbrev main_call2_call0_v174 : Ref sig .tc := ⟨.hbm, 301, rfl⟩
abbrev main_call2_v19_1 : Ref sig .tc := ⟨.hbm, 302, rfl⟩
abbrev main_call2_v20 : Ref sig .tc := ⟨.hbm, 303, rfl⟩
abbrev main_call2_c_2 : Ref sig .tc := ⟨.hbm, 304, rfl⟩
abbrev main_call2_v21 : Ref sig .tc := ⟨.hbm, 305, rfl⟩
abbrev main_call2_v22 : Ref sig .tc := ⟨.hbm, 306, rfl⟩
abbrev main_call2_c_3 : Ref sig .tc := ⟨.hbm, 307, rfl⟩
abbrev main_call2_v23 : Ref sig .tc := ⟨.hbm, 308, rfl⟩
abbrev main_call2_v24 : Ref sig .tc := ⟨.hbm, 309, rfl⟩
abbrev main_call2_v25 : Ref sig .tc := ⟨.hbm, 310, rfl⟩
abbrev main_call2_cst : Ref sig .tc := ⟨.hbm, 311, rfl⟩
abbrev main_call2_v26 : Ref sig .tc := ⟨.hbm, 312, rfl⟩
abbrev main_call2_v27 : Ref sig .tc := ⟨.hbm, 313, rfl⟩
abbrev main_call2_v28 : Ref sig .tc := ⟨.hbm, 314, rfl⟩
abbrev main_call2_v29 : Ref sig .tc := ⟨.hbm, 315, rfl⟩
abbrev main_call2_v30 : Ref sig .tc := ⟨.hbm, 316, rfl⟩
abbrev main_call2_v31 : Ref sig .tc := ⟨.hbm, 317, rfl⟩
abbrev main_call2_v32 : Ref sig .tc := ⟨.hbm, 318, rfl⟩
abbrev main_call2_v33 : Ref sig .tc := ⟨.hbm, 319, rfl⟩
abbrev main_v33 : Ref sig .tc := ⟨.hbm, 320, rfl⟩
abbrev main_v34 : Ref sig .tc := ⟨.hbm, 321, rfl⟩
abbrev main_v35 : Ref sig .tc := ⟨.hbm, 322, rfl⟩
abbrev main_v36 : Ref sig .tc := ⟨.hbm, 323, rfl⟩
abbrev main_values : Ref sig .tc := ⟨.hbm, 324, rfl⟩
abbrev main_indices : Ref sig .tc := ⟨.hbm, 325, rfl⟩
abbrev main_c_13 : Ref sig .tc := ⟨.hbm, 326, rfl⟩
abbrev main_v37 : Ref sig .tc := ⟨.hbm, 327, rfl⟩
abbrev main_v38 : Ref sig .tc := ⟨.hbm, 328, rfl⟩
abbrev main_v39 : Ref sig .tc := ⟨.hbm, 329, rfl⟩
abbrev main_v40 : Ref sig .tc := ⟨.hbm, 330, rfl⟩
abbrev main_c_14 : Ref sig .tc := ⟨.hbm, 331, rfl⟩
abbrev main_v41 : Ref sig .tc := ⟨.hbm, 332, rfl⟩
abbrev main_v42 : Ref sig .tc := ⟨.hbm, 333, rfl⟩
abbrev main_c_15 : Ref sig .tc := ⟨.hbm, 334, rfl⟩
abbrev main_v43 : Ref sig .tc := ⟨.hbm, 335, rfl⟩
abbrev main_v44 : Ref sig .tc := ⟨.hbm, 336, rfl⟩
abbrev main_v45 : Ref sig .tc := ⟨.hbm, 337, rfl⟩
abbrev main_c_16 : Ref sig .tc := ⟨.hbm, 338, rfl⟩
abbrev main_v46 : Ref sig .tc := ⟨.hbm, 339, rfl⟩
abbrev main_v47 : Ref sig .tc := ⟨.hbm, 340, rfl⟩
abbrev main_c_17 : Ref sig .tc := ⟨.hbm, 341, rfl⟩
abbrev main_v48 : Ref sig .tc := ⟨.hbm, 342, rfl⟩
abbrev main_v49 : Ref sig .tc := ⟨.hbm, 343, rfl⟩
abbrev main_v50 : Ref sig .tc := ⟨.hbm, 344, rfl⟩
abbrev main_v51 : Ref sig .tc := ⟨.hbm, 345, rfl⟩
abbrev main_v52 : Ref sig .tc := ⟨.hbm, 346, rfl⟩
abbrev main_v53 : Ref sig .tc := ⟨.hbm, 347, rfl⟩
abbrev main_v54 : Ref sig .tc := ⟨.hbm, 348, rfl⟩
abbrev main_c_18 : Ref sig .tc := ⟨.hbm, 349, rfl⟩
abbrev main_v55 : Ref sig .tc := ⟨.hbm, 350, rfl⟩
abbrev main_v56 : Ref sig .tc := ⟨.hbm, 351, rfl⟩
abbrev main_v57 : Ref sig .tc := ⟨.hbm, 352, rfl⟩
abbrev main_call3_call0_c : Ref sig .tc := ⟨.hbm, 353, rfl⟩
abbrev main_call3_call0_v0 : Ref sig .tc := ⟨.hbm, 354, rfl⟩
abbrev main_v58 : Ref sig .tc := ⟨.hbm, 355, rfl⟩
abbrev main_c_19 : Ref sig .tc := ⟨.hbm, 356, rfl⟩
abbrev main_v59 : Ref sig .tc := ⟨.hbm, 357, rfl⟩
abbrev main_v60 : Ref sig .tc := ⟨.hbm, 358, rfl⟩
abbrev main_v61 : Ref sig .tc := ⟨.hbm, 359, rfl⟩
abbrev main_c_20 : Ref sig .tc := ⟨.hbm, 360, rfl⟩
abbrev main_v62 : Ref sig .tc := ⟨.hbm, 361, rfl⟩
abbrev main_v63 : Ref sig .tc := ⟨.hbm, 362, rfl⟩
abbrev main_v64 : Ref sig .tc := ⟨.hbm, 363, rfl⟩
abbrev main_call4_v0 : Ref sig .tc := ⟨.hbm, 364, rfl⟩
abbrev main_call4_v1 : Ref sig .tc := ⟨.hbm, 365, rfl⟩
abbrev main_call4_v2 : Ref sig .tc := ⟨.hbm, 366, rfl⟩
abbrev main_call4_v3 : Ref sig .tc := ⟨.hbm, 367, rfl⟩
abbrev main_call4_v4 : Ref sig .tc := ⟨.hbm, 368, rfl⟩
abbrev main_v65 : Ref sig .tc := ⟨.hbm, 369, rfl⟩
abbrev main_v66 : Ref sig .tc := ⟨.hbm, 370, rfl⟩
abbrev main_v67 : Ref sig .tc := ⟨.hbm, 371, rfl⟩
abbrev main_v68 : Ref sig .tc := ⟨.hbm, 372, rfl⟩
abbrev main_v69 : Ref sig .tc := ⟨.hbm, 373, rfl⟩
abbrev main_v70 : Ref sig .tc := ⟨.hbm, 374, rfl⟩
abbrev main_cst_21 : Ref sig .tc := ⟨.hbm, 375, rfl⟩
abbrev main_v71 : Ref sig .tc := ⟨.hbm, 376, rfl⟩
abbrev main_v72 : Ref sig .tc := ⟨.hbm, 377, rfl⟩
abbrev main_v73 : Ref sig .tc := ⟨.hbm, 378, rfl⟩

abbrev nD : Nat := 1
abbrev τ : Topo := Topo.v7x

variable {F : FTy → Type} [FloatOps F]
-- ==== Proof.RefRun.lean ====
/- The reference's run: a straight line of host operations, listed part by part as the program spells it. -/
module

public import proofs.«01_k».proof.ReferenceIdeal
public import proofs.«01_k».proof.Proof.Gen.ReferenceIdeal
public import Idealize.ShloMosaic.Lib.Claim
public import Idealize.ShloMosaic.PureOps.Ideal

@[expose] public section

set_option maxRecDepth 16384

noncomputable section

namespace Cert.Proof.RefRun

open Idealize.ShloMosaic Idealize.SL.Sem Idealize.ShloMosaic.StableHlo Cert.ReferenceIdeal

/-- The idealized reference's side conditions. -/
instance : Cert.ReferenceIdeal.Facts := Cert.ReferenceIdeal.Gen.facts

/-- Two straight lines one after the other are the straight line of their operations in order. -/
theorem isSeq_append {nD : Nat} {τ : Topo} {sig : RefSig} {Val : EltTy → Type} {Λ : Labels}
    {p q : Prog (TpuEff nD τ sig Val Λ .tc) PUnit} {l₁ l₂ : List (HloOp τ sig Val)}
    (hp : IsSeq p l₁) (hq : IsSeq q l₂) : IsSeq (p >>= fun _ => q) (l₁ ++ l₂) := by
  unfold IsSeq at *
  subst hp; subst hq
  exact (seq_append l₁ l₂).symm

/-- The operations of the first part of @main, those of the noise's generator among them. -/
noncomputable def opsA : {l : List (HloOp τ sig (Elt Ideal)) // ∀ d, IsSeq (main_part0 (F := Ideal) d) l} :=
  by
  apply Subtype.mk
  hlo_seq

/-- The operations of the second part of @main. -/
noncomputable def opsB : {l : List (HloOp τ sig (Elt Ideal)) // ∀ d, IsSeq (main_part1 (F := Ideal) d) l} :=
  by
  apply Subtype.mk
  hlo_seq

/-- No operation writes no reference. -/
theorem writes_nil : ([] : List (HloOp τ sig (Elt Ideal))).map HloOp.writes
    = ([] : List (Ref sig .tc)).map fun w => {Proc.devRef (τ := τ) .tc w} := rfl

/-- One more operation writes one more reference. -/
theorem writes_cons {op : HloOp τ sig (Elt Ideal)} {l : List (HloOp τ sig (Elt Ideal))} {r : Ref sig .tc}
    {W : List (Ref sig .tc)} (h : op.writes = {Proc.devRef (τ := τ) .tc r})
    (t : l.map HloOp.writes = W.map fun w => {Proc.devRef (τ := τ) .tc w}) :
    (op :: l).map HloOp.writes = (r :: W).map fun w => {Proc.devRef (τ := τ) .tc w} := by
  rw [List.map_cons, List.map_cons, h, t]

/-- The references the first part's operations write, in order. -/
noncomputable def wrA : {W : List (Ref sig .tc) // opsA.1.map HloOp.writes = W.map fun w => {Proc.devRef (τ := τ) .tc w}} := by
  apply Subtype.mk
  dsimp only [opsA]
  repeat (first | exact writes_nil | apply writes_cons rfl)

/-- The references the second part's operations write, in order. -/
noncomputable def wrB : {W : List (Ref sig .tc) // opsB.1.map HloOp.writes = W.map fun w => {Proc.devRef (τ := τ) .tc w}} := by
  apply Subtype.mk
  dsimp only [opsB]
  repeat (first | exact writes_nil | apply writes_cons rfl)

/-- A straight line made of two is the second run after the first. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- A reference whose number is not among a list's numbers is not in the list. -/
theorem notMem_of_idx {r : Ref sig .tc} {W : List (Ref sig .tc)}
    (h : (W.all fun w => !(Nat.beq w.idx.val r.idx.val)) = true) : r ∉ W := by
  intro hr
  have := List.all_eq_true.1 h r hr
  simp at this

/-- Every operation of the reference, in order. -/
noncomputable def ops : List (HloOp τ sig (Elt Ideal)) := opsA.1 ++ opsB.1

/-- A reference no operation writes keeps its contents. -/
theorem ops_keep {r : Ref sig .tc} (hA : r ∉ wrA.1) (hB : r ∉ wrB.1) (V : Valuation τ sig (Elt Ideal)) :
    after ops V (Proc.devRef .tc r) = V (Proc.devRef .tc r) := by
  rw [ops, after_append, after_of_writes_sub _ _ (forall_writes_sub_of_map wrB.2) hB,
    after_of_writes_sub _ _ (forall_writes_sub_of_map wrA.2) hA]

/-- The reference's main function is the straight line of `ops`. -/
theorem main_isSeq (d : Dev nD) : IsSeq (main (F := Ideal) d) ops :=
  isSeq_append (opsA.2 d) (opsB.2 d)

/-- Every operation touches buffers of the one core only. -/
theorem ops_bufs : ops.Forall fun op => op.bufs ⊆ tcRefs τ sig := by
  simp [ops, opsA, opsB]

/-- No operation allocates a buffer. -/
theorem ops_fresh : ∀ op ∈ ops, op.fresh = ∅ := by
  have hA : ∀ op ∈ opsA.1, op.fresh = ∅ := by
    intro _ h; (repeat (cases h with | head => rfl | tail _ h => ?_)); exact nomatch h
  have hB : ∀ op ∈ opsB.1, op.fresh = ∅ := by
    intro _ h; (repeat (cases h with | head => rfl | tail _ h => ?_)); exact nomatch h
  intro op h
  rcases List.mem_append.1 h with h | h
  · exact hA op h
  · exact hB op h

/-- The reference runs to the end, and leaves every buffer at what its operations compute. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = after ops (launchContents m d) (Proc.devRef .tc b) :=
  run_hlo _ _ main_isSeq (by decide) (by decide) ops_bufs ops_fresh m ρ

/-- The reference runs to the end, its arguments unchanged and every semaphore counter at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 := by
  refine θ_run_mono (run m ρ) fun r h => ⟨fun c => ?_, ?_⟩
  · constructor
    · refine (h c main_arg0).trans ?_
      rw [ops_keep (notMem_of_idx (by decide +kernel)) (notMem_of_idx (by decide +kernel)), launchContents_devRef]
    · refine (h c main_arg1).trans ?_
      rw [ops_keep (notMem_of_idx (by decide +kernel)) (notMem_of_idx (by decide +kernel)), launchContents_devRef]
  · funext g
    rcases g with ⟨c, s | s⟩
    · exact s.elim0
    · exact s.elim0

end Cert.Proof.RefRun

end
-- ==== Proof.Ssa.lean ====
/- A straight line of host operations whose results are numbered in order: every buffer ends at its operation
   applied to what the operands end at. -/
module

public import Idealize.ShloMosaic.Lib.Claim
public import Idealize.ShloMosaic.Lib.StableHlo.RunRead

@[expose] public section

noncomputable section

namespace Cert.Proof

open Idealize.ShloMosaic Idealize.ShloMosaic.StableHlo

variable {τ : Topo} {sig : RefSig} {Val : EltTy → Type}

/-- The references a line's operations write, one each, numbered in order from `base`. -/
structure Ssa (ops : List (HloOp τ sig Val)) where
  W : List (Ref sig .tc)
  hW : ops.map HloOp.writes = W.map fun w => {Proc.devRef (τ := τ) .tc w}
  base : ℕ
  hs : ∀ k (h : k < W.length), (W[k]).idx.val = base + k

namespace Ssa

variable {ops : List (HloOp τ sig Val)} (S : Ssa ops) (V : Valuation τ sig Val)

/-- A name not in a list is not in its tail. -/
theorem notMem_drop {x : Ref sig .tc} {i : ℕ} (hx : x.idx.val < S.base + i) : x ∉ S.W.drop i := by
  intro h
  obtain ⟨k, hk, e⟩ := List.getElem_of_mem h
  rw [List.getElem_drop] at e
  have := S.hs (i + k) (by rw [List.length_drop] at hk; omega)
  rw [e] at this
  omega

/-- What an operand holds when its operation runs is what it holds at the end. -/
theorem keep {x : Ref sig .tc} {i : ℕ} (hx : x.idx.val < S.base + i) :
    upto ops V i (Proc.devRef .tc x) = after ops V (Proc.devRef .tc x) := by
  have h : after ops V = after (ops.drop i) (after (ops.take i) V) := by
    conv_lhs => rw [← List.take_append_drop i ops]
    generalize ops.take i = l₁; generalize ops.drop i = l₂
    induction l₁ generalizing V with
    | nil => rfl
    | cons op l ih => exact ih _
  rw [h, after_unwritten (S.W.drop i) (by rw [List.map_drop, S.hW, List.map_drop]) (S.notMem_drop hx)]
  rfl

/-- A buffer ends at what its operation leaves there. -/
theorem opAt {y : Ref sig .tc} {i : ℕ} {op : HloOp τ sig Val} {rest : List (HloOp τ sig Val)}
    (hseg : ops.drop i = op :: rest) (hy : y.idx.val < S.base + i + 1) :
    after ops V (Proc.devRef .tc y) = op.result (upto ops V i) (Proc.devRef .tc y) := by
  refine after_last_write (S.W.drop (i + 1)) hseg ?_ (S.notMem_drop (by omega)) V
  have : rest = ops.drop (i + 1) := by
    rw [← List.drop_drop, hseg]; rfl
  rw [this, List.map_drop, S.hW, List.map_drop]

/-- The end value of a constant's buffer. -/
theorem nul (y : Ref sig .tc) {v : y.ty.Contents Val} {hy} {rest : List (HloOp τ sig Val)}
    (hseg : ops.drop (y.idx.val - S.base) = nullary (τ := τ) y v hy :: rest) (h : S.base ≤ y.idx.val := by decide) :
    after ops V (Proc.devRef .tc y) = v :=
  (S.opAt V hseg (by omega)).trans (nullary_result y v hy _)

/-- The end value of a one-operand operation's buffer. -/
theorem un (x y : Ref sig .tc) {f : x.ty.Contents Val → y.ty.Contents Val} {hx hy}
    {rest : List (HloOp τ sig Val)}
    (hseg : ops.drop (y.idx.val - S.base) = unary (τ := τ) x y f hx hy :: rest)
    (h : S.base ≤ y.idx.val := by decide) (h₁ : x.idx.val < y.idx.val := by decide) :
    after ops V (Proc.devRef .tc y) = f (after ops V (Proc.devRef .tc x)) := by
  rw [← S.keep V (x := x) (i := y.idx.val - S.base) (by omega)]
  exact (S.opAt V hseg (by omega)).trans (unary_result x y f hx hy _)

/-- The end value of a two-operand operation's buffer. -/
theorem bin (a b y : Ref sig .tc) {f : a.ty.Contents Val → b.ty.Contents Val → y.ty.Contents Val} {ha hb hy}
    {rest : List (HloOp τ sig Val)}
    (hseg : ops.drop (y.idx.val - S.base) = binary (τ := τ) a b y f ha hb hy :: rest)
    (h : S.base ≤ y.idx.val := by decide) (h₁ : a.idx.val < y.idx.val := by decide)
    (h₂ : b.idx.val < y.idx.val := by decide) :
    after ops V (Proc.devRef .tc y) = f (after ops V (Proc.devRef .tc a)) (after ops V (Proc.devRef .tc b)) := by
  rw [← S.keep V (x := a) (i := y.idx.val - S.base) (by omega), ← S.keep V (x := b) (i := y.idx.val - S.base) (by omega)]
  exact (S.opAt V hseg (by omega)).trans (binary_result a b y f ha hb hy _)

/-- The end value of a three-operand operation's buffer. -/
theorem tern (c a b y : Ref sig .tc)
    {f : c.ty.Contents Val → a.ty.Contents Val → b.ty.Contents Val → y.ty.Contents Val} {hc ha hb hy}
    {rest : List (HloOp τ sig Val)}
    (hseg : ops.drop (y.idx.val - S.base) = ternary (τ := τ) c a b y f hc ha hb hy :: rest)
    (h : S.base ≤ y.idx.val := by decide) (h₀ : c.idx.val < y.idx.val := by decide)
    (h₁ : a.idx.val < y.idx.val := by decide) (h₂ : b.idx.val < y.idx.val := by decide) :
    after ops V (Proc.devRef .tc y)
      = f (after ops V (Proc.devRef .tc c)) (after ops V (Proc.devRef .tc a)) (after ops V (Proc.devRef .tc b)) := by
  rw [← S.keep V (x := c) (i := y.idx.val - S.base) (by omega), ← S.keep V (x := a) (i := y.idx.val - S.base) (by omega),
    ← S.keep V (x := b) (i := y.idx.val - S.base) (by omega)]
  exact (S.opAt V hseg (by omega)).trans (ternary_result c a b y f hc ha hb hy _)

/-- The end value of a four-operand operation's buffer. -/
theorem quat (a b c e y : Ref sig .tc)
    {f : a.ty.Contents Val → b.ty.Contents Val → c.ty.Contents Val → e.ty.Contents Val → y.ty.Contents Val}
    {ha hb hc he hy} {rest : List (HloOp τ sig Val)}
    (hseg : ops.drop (y.idx.val - S.base) = quaternary (τ := τ) a b c e y f ha hb hc he hy :: rest)
    (h : S.base ≤ y.idx.val := by decide) (h₀ : a.idx.val < y.idx.val := by decide)
    (h₁ : b.idx.val < y.idx.val := by decide) (h₂ : c.idx.val < y.idx.val := by decide)
    (h₃ : e.idx.val < y.idx.val := by decide) :
    after ops V (Proc.devRef .tc y)
      = f (after ops V (Proc.devRef .tc a)) (after ops V (Proc.devRef .tc b)) (after ops V (Proc.devRef .tc c))
          (after ops V (Proc.devRef .tc e)) := by
  rw [← S.keep V (x := a) (i := y.idx.val - S.base) (by omega), ← S.keep V (x := b) (i := y.idx.val - S.base) (by omega),
    ← S.keep V (x := c) (i := y.idx.val - S.base) (by omega), ← S.keep V (x := e) (i := y.idx.val - S.base) (by omega)]
  exact (S.opAt V hseg (by omega)).trans (quaternary_result a b c e y f ha hb hc he hy _)

/-- The end value of a reshaped buffer. -/
theorem resh (x y : Ref sig .tc) {he hn hx hy} {rest : List (HloOp τ sig Val)}
    (hseg : ops.drop (y.idx.val - S.base) = reshape (τ := τ) (Val := Val) x y he hn hx hy :: rest)
    (h : S.base ≤ y.idx.val := by decide) (h₁ : x.idx.val < y.idx.val := by decide) :
    after ops V (Proc.devRef .tc y)
      = fun j => he ▸ shapeCast y.ty.shape (after ops V (Proc.devRef .tc x)) hn j := by
  rw [← S.keep V (x := x) (i := y.idx.val - S.base) (by omega)]
  exact (S.opAt V hseg (by omega)).trans (reshape_result x y he hn hx hy _)

/-- A buffer numbered before the line keeps its contents. -/
theorem arg {x : Ref sig .tc} (hx : x.idx.val < S.base) :
    after ops V (Proc.devRef .tc x) = V (Proc.devRef .tc x) :=
  (S.keep V (i := 0) hx).symm

end Ssa

end Cert.Proof

end
-- ==== Proof.RefVal.lean ====
/- What the reference's buffers end at, one equation an operation. -/
module

public import proofs.«01_k».proof.Proof.RefRun
public import proofs.«01_k».proof.Proof.Ssa

@[expose] public section

set_option maxRecDepth 16384

noncomputable section

namespace Cert.Proof.RefRun

open Idealize.ShloMosaic Idealize.SL.Sem Idealize.ShloMosaic.StableHlo Cert.ReferenceIdeal Cert.ReferenceIdeal.Facts₀ Cert.ReferenceIdeal.Facts

/-- The reference's results are numbered in order from 2. -/
noncomputable def ssa : Ssa ops where
  W := wrA.1 ++ wrB.1
  hW := by rw [show ops = opsA.1 ++ opsB.1 from rfl, List.map_append, List.map_append]; exact congrArg₂ _ wrA.2 wrB.2
  base := 2
  hs := by decide +kernel

variable (V : Valuation τ sig (Elt Ideal))

/-- Float tensors and tensors of 32-bit integers. -/
abbrev Fl (S : Shape) := (⟨S, .f32⟩ : BufTy).Contents (Elt Ideal)
/-- An array of 32-bit integers. -/
abbrev In (S : Shape) := (⟨S, .i32⟩ : BufTy).Contents (Elt Ideal)

/-- The logits. -/
def logits (x : Fl S8192x768) (w : Fl S64x768) : Fl S8192x64 :=
  Host.dotGeneral (F := Ideal) (φ₁ := .f32) (φ₂ := .f32) dot_S8192x768_S768x64_S8192x64_1_0_0_1_n_n none x
    (transpose S768x64 [1, 0] w transposes_S64x768_S768x64_1_0)

/-- The exponentials of the logits less their row's maximum. -/
def exps (l : Fl S8192x64) : Fl S8192x64 :=
  Host.exp (F := Ideal) (subf (F := Ideal) l (broadcastInDim S8192x64 ![0, 1] bcast_S8192x1_S8192x64_0_1
    (broadcastInDim S8192x1 ![0] bcast_S8192_S8192x1_0
      (maximumf (F := Ideal) (broadcastInDim S8192 ![] bcast_S_S8192 (constant (F := Ideal) S_ .f32 0xFF800000#32))
        (Host.reduce (FloatOps.maximumf (F := Ideal)) l (constant (F := Ideal) S_ .f32 0xFF800000#32) reducesTo_S8192x64_S8192_d1 h_S_)))))

/-- The gates: the exponentials over their row's sum. -/
def gates (e : Fl S8192x64) : Fl S8192x64 :=
  Host.divf (F := Ideal) e (broadcastInDim S8192x64 ![0, 1] bcast_S8192x1_S8192x64_0_1
    (broadcastInDim S8192x1 ![0] bcast_S8192_S8192x1_0
      (Host.reduceAdd (F := Ideal) e (constant (F := Ideal) S_ .f32 0x00000000#32) reducesTo_S8192x64_S8192_d1 h_S_)))

/-- The index of the first greatest gate of a row. -/
def amax (g : Fl S8192x64) : In S8192 := fun j =>
  (Host.argReduce (F := Ideal) reducer_argmax_f32_i32 g (iotaInDim S8192x64 32 1) (constant (F := Ideal) S_ .f32 0xFF800000#32)
    (constantI S_ 32 0#32) reducesTo_S8192x64_S8192_d1 h_S_ j).2

/-- One where the column is the chosen one. -/
def oneHot (a : In S8192) : In S8192x64 :=
  extui 32 (cmpi .eq (broadcastInDim S8192x64 ![0, 1] bcast_S8192x1_S8192x64_0_1 (broadcastInDim S8192x1 ![0] bcast_S8192_S8192x1_0 a))
    (broadcastInDim S8192x64 ![0, 1] bcast_S1x64_S8192x64_0_1 (iotaInDim S1x64 32 1))) natLt_1_32

/-- How many tokens chose each column. -/
def counts (o : In S8192x64) : In S64 :=
  Host.reduce IntOp.addi o (constantI S_ 32 0#32) reducesTo_S8192x64_S64_d0 h_S_

/-- The column means of a float tensor. -/
def means (g : Fl S8192x64) : Fl S64 :=
  Host.divf (F := Ideal) (Host.reduceAdd (F := Ideal) g (constant (F := Ideal) S_ .f32 0x00000000#32) reducesTo_S8192x64_S64_d0 h_S_)
    (broadcastInDim S64 ![] bcast_S_S64 (constant (F := Ideal) S_ .f32 0x46000000#32))

/-- The balancing loss. -/
def laux (g : Fl S8192x64) (o : In S8192x64) : Fl S_ :=
  mulf (F := Ideal) (Host.reduceAdd (F := Ideal) (mulf (F := Ideal) (means g) (means (sitofp (F := Ideal) .f32 o)))
    (constant (F := Ideal) S_ .f32 0x00000000#32) reducesTo_S64_S_d0 h_S_) (constant (F := Ideal) S_ .f32 0x42800000#32)

/-- The logits' buffer. -/
theorem a_logits : after ops V (Proc.devRef .tc main_v1)
    = logits (after ops V (Proc.devRef .tc main_arg0)) (after ops V (Proc.devRef .tc main_arg1)) := by
  rw [ssa.bin V main_arg0 main_v0 main_v1 rfl, ssa.un V main_arg1 main_v0 rfl]
  rfl

/-- The exponentials' buffer. -/
theorem a_exps : after ops V (Proc.devRef .tc main_v8) = exps (after ops V (Proc.devRef .tc main_v1)) := by
  rw [ssa.un V main_v7 main_v8 rfl, ssa.bin V main_v1 main_v6 main_v7 rfl, ssa.un V main_v5 main_v6 rfl,
    ssa.un V main_v4 main_v5 rfl, ssa.bin V main_v3 main_v2 main_v4 rfl, ssa.un V main_cst_0 main_v3 rfl,
    ssa.nul V main_cst_0 rfl, ssa.bin V main_v1 main_cst main_v2 rfl, ssa.nul V main_cst rfl]
  rfl

/-- The gates' buffer. -/
theorem a_gates : after ops V (Proc.devRef .tc main_v12) = gates (after ops V (Proc.devRef .tc main_v8)) := by
  rw [ssa.bin V main_v8 main_v11 main_v12 rfl, ssa.un V main_v10 main_v11 rfl, ssa.un V main_v9 main_v10 rfl,
    ssa.bin V main_v8 main_cst_1 main_v9 rfl, ssa.nul V main_cst_1 rfl]
  rfl

/-- The chosen columns' buffer. -/
theorem a_amax : after ops V (Proc.devRef .tc main_v13) = amax (after ops V (Proc.devRef .tc main_v12)) := by
  rw [ssa.quat V main_v12 main_call0_v0 main_call0_cst main_call0_c main_v13 rfl, ssa.nul V main_call0_v0 rfl,
    ssa.nul V main_call0_cst rfl, ssa.nul V main_call0_c rfl]
  unfold amax
  simp only [cast_eq]
  trace_state

/-- The one-hot buffer. -/
theorem a_oneHot : after ops V (Proc.devRef .tc main_v14) = oneHot (after ops V (Proc.devRef .tc main_v13)) := by
  rw [ssa.un V main_call1_v4 main_v14 rfl, ssa.bin V main_call1_v2 main_call1_v3 main_call1_v4 rfl,
    ssa.un V main_call1_v0 main_call1_v2 rfl, ssa.un V main_v13 main_call1_v0 rfl,
    ssa.un V main_call1_v1 main_call1_v3 rfl, ssa.nul V main_call1_v1 rfl]
  simp only [TRef.ofBuf_toBuf]
  rfl

/-- The counts' buffer. -/
theorem a_counts : after ops V (Proc.devRef .tc main_v15) = counts (after ops V (Proc.devRef .tc main_v14)) := by
  rw [ssa.bin V main_v14 main_c main_v15 rfl, ssa.nul V main_c rfl]
  rfl

/-- The balancing loss's buffer. -/
theorem a_laux : after ops V (Proc.devRef .tc main_v25)
    = laux (after ops V (Proc.devRef .tc main_v12)) (after ops V (Proc.devRef .tc main_v14)) := by
  rw [ssa.bin V main_v24 main_cst_7 main_v25 rfl, ssa.nul V main_cst_7 rfl, ssa.bin V main_v23 main_cst_6 main_v24 rfl,
    ssa.nul V main_cst_6 rfl, ssa.bin V main_v18 main_v22 main_v23 rfl, ssa.bin V main_v16 main_v17 main_v18 rfl,
    ssa.un V main_cst_3 main_v17 rfl, ssa.nul V main_cst_3 rfl, ssa.bin V main_v12 main_cst_2 main_v16 rfl,
    ssa.nul V main_cst_2 rfl, ssa.bin V main_v20 main_v21 main_v22 rfl, ssa.un V main_cst_5 main_v21 rfl,
    ssa.nul V main_cst_5 rfl, ssa.bin V main_v19 main_cst_4 main_v20 rfl, ssa.nul V main_cst_4 rfl,
    ssa.un V main_v14 main_v19 rfl]
  rfl

end Cert.Proof.RefRun

end
-- ==== Proof.KRun.lean ====
/- The run of the idealized kernel: every buffer that outlives the launch ends at its contents after the last host line. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Init
public import Idealize.ShloMosaic.PureOps.Ideal

@[expose] public section

set_option maxRecDepth 16384

noncomputable section

namespace Cert.Proof.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

set_option backward.isDefEq.respectTransparency.types false in
/-- The idealized kernel runs to its end and leaves every unscoped buffer at the last boundary's contents. -/
theorem run : θ_run (defs (F := Ideal)) (onTc (τ := τ) (main (F := Ideal))) ⟨m, fun _ => 0, ρ⟩ (fun r =>
    ∀ (c : Dev nD) (b : Ref sig .tc), ¬ (Proc.devRef .tc b : DevRef τ sig).isScoped →
      r.2.mem ((c : Dev nD), Proc.devRef .tc b) = W7 m ρ c (Proc.devRef .tc b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c b hb => h c _ (mem_uc b hb))

end Cert.Proof.KRun

end
-- ==== Proof.Route.lean ====
/- What the routing kernel leaves in its six results, as the printed payloads of its three operands. -/
module

public import proofs.«01_k».proof.Proof.KRun
public import Idealize.ShloMosaic.Lib.VecWindow
public import Idealize.ShloMosaic.Lib.WholeRead

@[expose] public section

set_option maxRecDepth 16384

noncomputable section

namespace Cert.Proof.Route

open Idealize.ShloMosaic Cert.KernelIdeal Cert.KernelIdeal.Gen

/-- A load of a whole buffer through the rectangle of its own sizes reads the contents. -/
theorem readAt_whole {sp : Space} {s : Shape} {e : EltTy} {M : Memref sig .tc sp s e} (h : M.IsWhole)
    (X : s.Idx → Elt Ideal e) {off : Fin s.rank → ℕ} (inb : ∀ a, off a + s.size a ≤ s.size a) :
    M.view.readAt (Elt Ideal) (Rect.unit off s.size inb).toLoadRect (h.unread X) = X := by
  rw [View.readAt_full, h.read_unread]

variable (V : (c : Dev nD) → (b : Ref sig .tc) → Buf (Elt Ideal) (c.tc.loc b)) (c : Dev nD) (t : Fin cfg0.N)

/-- The chosen expert of every token. -/
theorem out_idx : (outsAt0 V c t).1 = k0_pay6 (iblk0 V c 0 t) (iblk0 V c 1 t) := by
  dsimp only [outsAt0, out0_A_3, kernelRun0_A]
  refine (View.read_writes_full _ _ _ _ _).trans ?_
  exact congrArg₂ k0_pay6 (readAt_whole _ _ _) (readAt_whole _ _ _)

/-- One over the sum of the exponentials of every token. -/
theorem out_gval : (outsAt0 V c t).2.2.1 = k0_pay71 (k0_pay4 (iblk0 V c 0 t) (iblk0 V c 1 t)) := by
  dsimp only [outsAt0, out0_A_5, kernelRun0_A]
  refine (View.read_writes_full _ _ _ _ _).trans ?_
  exact congrArg k0_pay71 (congrArg₂ k0_pay4 (readAt_whole _ _ _) (readAt_whole _ _ _))

/-- How many tokens chose each expert. -/
theorem out_cnt : (outsAt0 V c t).2.2.2.2.1 = k0_pay8 (iblk0 V c 0 t) (iblk0 V c 1 t) := by
  dsimp only [outsAt0, out0_A_7, kernelRun0_A]
  refine (View.read_writes_full _ _ _ _ _).trans ?_
  exact congrArg₂ k0_pay8 (readAt_whole _ _ _) (readAt_whole _ _ _)

/-- The auxiliary loss. -/
theorem out_laux : (outsAt0 V c t).2.2.2.2.2
    = k0_pay72 (k0_pay5 (iblk0 V c 0 t) (iblk0 V c 1 t)) (k0_pay8 (iblk0 V c 0 t) (iblk0 V c 1 t)) := by
  dsimp only [outsAt0, out0_A_8, kernelRun0_A]
  refine (View.read_writes_full _ _ _ _ _).trans ?_
  exact congrArg₂ k0_pay72 (congrArg₂ k0_pay5 (readAt_whole _ _ _) (readAt_whole _ _ _))
    (congrArg₂ k0_pay8 (readAt_whole _ _ _) (readAt_whole _ _ _))

end Cert.Proof.Route

end
-- ==== Proof.Tok.lean ====
/- Facts on one row of gates: the greatest entry, the first lane that attains it, and what the two programs' ways
   of naming that lane leave. -/
module

public import Idealize.ShloMosaic.Lib.Pointwise
public import Idealize.ShloMosaic.PureOps.Ideal
public import Idealize.ShloMosaic.PureOps.Reduce

@[expose] public section

noncomputable section

namespace Cert.Proof.Tok

open Idealize.ShloMosaic

/-- The pattern of minus infinity denotes the least extended real. -/
theorem ofBits_bot : Ideal.ofBits FTy.f32 4286578688#32 = ⊥ := by
  simp [Ideal.ofBits, Ideal.ieee]

/-- Lane `e` holds the greatest value, and no earlier lane does. -/
def IsPick {n : ℕ} (l : Fin n → EReal) (e : Fin n) : Prop := ∀ e', l e' < l e ∨ (l e' = l e ∧ e ≤ e')

/-- Some lane is the first with the greatest value. -/
theorem exists_pick (l : Fin 64 → EReal) : ∃ e, IsPick l e := by
  obtain ⟨m, -, hm⟩ := Finset.exists_max_image Finset.univ l ⟨0, Finset.mem_univ _⟩
  obtain ⟨e, he, hmin⟩ := Finset.exists_min_image (Finset.univ.filter fun e => l e = l m) id ⟨m, by simp⟩
  rw [Finset.mem_filter] at he
  refine ⟨e, fun e' => ?_⟩
  rcases lt_or_eq_of_le (hm e' (Finset.mem_univ _)) with h | h
  · exact Or.inl (by rw [he.2]; exact h)
  · exact Or.inr ⟨by rw [he.2]; exact h, hmin e' (by simp [h])⟩

/-- Only one lane is the first with the greatest value. -/
theorem IsPick.unique {n : ℕ} {l : Fin n → EReal} {e e' : Fin n} (h : IsPick l e) (h' : IsPick l e') : e = e' := by
  rcases h e' with a | ⟨a, b⟩
  · rcases h' e with c | ⟨c, -⟩
    · exact absurd a (not_lt.mpr c.le)
    · exact absurd c a.ne'
  · rcases h' e with c | ⟨-, d⟩
    · exact absurd a c.ne'
    · exact le_antisymm b d

/-- A picked lane of one row is the picked lane of another that orders its lanes alike. -/
theorem IsPick.of_iff {n : ℕ} {l g : Fin n → EReal} {e : Fin n} (h : IsPick l e)
    (hlt : ∀ a b, l a < l b → g a < g b) (heq : ∀ a b, l a = l b → g a = g b) : IsPick g e := fun e' => by
  rcases h e' with a | ⟨a, b⟩
  · exact Or.inl (hlt _ _ a)
  · exact Or.inr ⟨heq _ _ a, b⟩

/-- The greatest value of a row is the picked lane's. -/
theorem IsPick.fold_max {n : ℕ} {l : Fin n → EReal} {e : Fin n} (h : IsPick l e) :
    Finset.fold max (⊥ : EReal) l Finset.univ = l e := by
  apply le_antisymm
  · rw [Finset.fold_max_le]
    exact ⟨bot_le, fun x _ => by rcases h x with a | ⟨a, -⟩ <;> [exact a.le; exact a.le]⟩
  · rw [Finset.le_fold_max]
    exact Or.inr ⟨e, Finset.mem_univ _, le_rfl⟩

/-- The lesser of two words, as integers. -/
theorem toInt_minsi (a b : BitVec 32) : (IntOp.minsi a b).toInt = min a.toInt b.toInt := by
  unfold IntOp.minsi
  split <;> rename_i h <;> simp [BitVec.sle, BitVec.slt] at h <;> omega

/-- A lane's number as an integer. -/
theorem toInt_lane {n : ℕ} (hn : n ≤ 8192) (e : Fin n) : (BitVec.ofNat 32 e).toInt = (e : ℤ) := by
  rw [BitVec.toInt_eq_toNat_of_lt] <;> rw [BitVec.toNat_ofNat, Nat.mod_eq_of_lt] <;> omega

/-- The least lane among those that hold the greatest value, taken by a minimum over the lanes, is the picked one. -/
theorem fold_minsi {l : Fin 64 → EReal} {e : Fin 64} (h : IsPick l e) :
    Finset.fold IntOp.minsi (2147483647#32)
      (fun x : Fin 64 => if l x = l e then BitVec.ofNat 32 x else 64#32) Finset.univ = BitVec.ofNat 32 e := by
  apply BitVec.eq_of_toInt_eq
  rw [← Finset.fold_hom (op' := min) (m := BitVec.toInt) toInt_minsi, toInt_lane (by decide)]
  apply le_antisymm
  · rw [Finset.fold_min_le]
    exact Or.inr ⟨e, Finset.mem_univ _, by rw [if_pos rfl, toInt_lane (by decide)]⟩
  · rw [Finset.le_fold_min]
    refine ⟨?_, fun x _ => ?_⟩
    · have : (2147483647#32 : BitVec 32).toInt = 2147483647 := by decide
      rw [this]; omega
    · split <;> rename_i hx
      · rw [toInt_lane (by decide)]
        rcases h x with a | ⟨-, b⟩
        · exact absurd hx a.ne
        · exact_mod_cast b
      · have : (64#32 : BitVec 32).toInt = 64 := by decide
        rw [this]; omega

/-- A sum of words that are one at the indices with a property and nought at the others counts them. -/
theorem fold_addi {ι : Type} [DecidableEq ι] (S : Finset ι) (p : ι → Prop) [DecidablePred p] :
    Finset.fold IntOp.addi (0#32) (fun x => if p x then 1#32 else 0#32) S
      = BitVec.ofNat 32 (S.filter p).card := by
  induction S using Finset.induction_on with
  | empty => rfl
  | insert a S ha ih =>
    rw [Finset.fold_insert ha, ih, Finset.filter_insert]
    by_cases h : p a
    · rw [if_pos h, if_pos h, Finset.card_insert_of_notMem (by simp [ha]), Nat.add_comm]
      simp only [IntOp.addi]
      rw [BitVec.ofNat_add]
    · rw [if_neg h, if_neg h]
      simp [IntOp.addi]

/-- The equality of two lanes' words, widened: one or nought. -/
theorem setWidth_cmpi_eq {n : ℕ} (hn : n ≤ 8192) (a b : Fin n) :
    BitVec.setWidth 32 (IntOp.cmpi CmpIPredicate.eq (BitVec.ofNat 32 a) (BitVec.ofNat 32 b))
      = if a = b then 1#32 else 0#32 := by
  have : BitVec.ofNat 32 (a : ℕ) = BitVec.ofNat 32 (b : ℕ) ↔ a = b := by
    constructor
    · intro h
      have := congrArg BitVec.toInt h
      rw [toInt_lane hn, toInt_lane hn] at this
      exact Fin.ext (by exact_mod_cast this)
    · rintro rfl; rfl
  by_cases h : a = b
  · subst h; simp [IntOp.cmpi]
  · have hb : (BitVec.ofNat 32 (a : ℕ) == BitVec.ofNat 32 (b : ℕ)) = false := by simpa [this] using h
    rw [if_neg h]
    simp only [IntOp.cmpi, hb]
    rfl

end Cert.Proof.Tok

end
-- ==== Proof.Choice.lean ====
/- The chosen expert of a token: the reference's arg-max of the gates and the routing kernel's least lane of greatest
   logit name the same lane. -/
module

public import proofs.«01_k».proof.Proof.RefVal
public import proofs.«01_k».proof.Proof.Route
public import proofs.«01_k».proof.Proof.Tok
public import Idealize.ShloMosaic.PureOps.Ideal.Laws

@[expose] public section

set_option maxRecDepth 16384

noncomputable section

namespace Cert.Proof.Tok

open Idealize.ShloMosaic Cert.Proof.RefRun

/-- One (value, lane) pair is at least as good as another: a greater value, or the same value at no later a lane. -/
def Beats (r p : EReal × BitVec 32) : Prop := p.1 < r.1 ∨ (p.1 = r.1 ∧ r.2.toInt ≤ p.2.toInt)

/-- Every pair beats itself. -/
theorem Beats.refl (r : EReal × BitVec 32) : Beats r r := Or.inr ⟨rfl, le_rfl⟩

/-- Beating is transitive. -/
theorem Beats.trans {r p q : EReal × BitVec 32} (h : Beats r p) (h' : Beats p q) : Beats r q := by
  rcases h with a | ⟨a, b⟩ <;> rcases h' with c | ⟨c, d⟩
  · exact Or.inl (c.trans a)
  · exact Or.inl (by rw [c]; exact a)
  · exact Or.inl (by rw [← a]; exact c)
  · exact Or.inr ⟨c.trans a, b.trans d⟩

/-- One step of the arg-max keeps one of its two pairs, which is at least as good as both. -/
theorem argmax_step (a b : EReal × BitVec 32) :
    ((Cert.ReferenceIdeal.reducer_argmax_f32_i32 (F := Ideal) a b : EReal × BitVec 32) = a
      ∨ (Cert.ReferenceIdeal.reducer_argmax_f32_i32 (F := Ideal) a b : EReal × BitVec 32) = b)
    ∧ Beats (Cert.ReferenceIdeal.reducer_argmax_f32_i32 (F := Ideal) a b) a
    ∧ Beats (Cert.ReferenceIdeal.reducer_argmax_f32_i32 (F := Ideal) a b) b := by
  obtain ⟨a1, a2⟩ := a
  obtain ⟨b1, b2⟩ := b
  have key : (Cert.ReferenceIdeal.reducer_argmax_f32_i32 (F := Ideal) (a1, a2) (b1, b2) : EReal × BitVec 32)
      = if b1 < a1 ∨ (a1 = b1 ∧ a2.toInt < b2.toInt) then (a1, a2) else (b1, b2) := by
    unfold Cert.ReferenceIdeal.reducer_argmax_f32_i32
    simp only [Ideal.cmpf_def, Ideal.cmp]
    by_cases h : b1 < a1
    · have : ¬ a1 = b1 := h.ne'
      simp [h, this, IntOp.ori, IntOp.andi, Scalar.select]
    · by_cases h2 : a1 = b1
      · subst h2
        by_cases h3 : a2.toInt < b2.toInt
        · simp [h3, IntOp.ori, IntOp.andi, IntOp.cmpi, Scalar.select, BitVec.slt]
        · simp [h3, IntOp.ori, IntOp.andi, IntOp.cmpi, Scalar.select, BitVec.slt]
      · simp [h, h2, IntOp.ori, IntOp.andi, Scalar.select]
  rw [key]
  split
  · rename_i h
    refine ⟨Or.inl rfl, Beats.refl _, ?_⟩
    rcases h with h | ⟨h, h'⟩
    · exact Or.inl h
    · exact Or.inr ⟨h.symm, h'.le⟩
  · rename_i h
    refine ⟨Or.inr rfl, ?_, Beats.refl _⟩
    rw [not_or, not_and_or, not_lt, not_lt] at h
    rcases lt_or_eq_of_le h.1 with h1 | h1
    · exact Or.inl h1
    · exact Or.inr ⟨h1, h.2.resolve_left (fun h => h h1)⟩

/-- The arg-max of a list of pairs is one of them (or the start), at least as good as all. -/
theorem foldl_argmax (L : List (EReal × BitVec 32)) (a : EReal × BitVec 32) :
    (L.foldl (Cert.ReferenceIdeal.reducer_argmax_f32_i32 (F := Ideal)) a = a
      ∨ L.foldl (Cert.ReferenceIdeal.reducer_argmax_f32_i32 (F := Ideal)) a ∈ L)
    ∧ Beats (L.foldl (Cert.ReferenceIdeal.reducer_argmax_f32_i32 (F := Ideal)) a) a
    ∧ ∀ p ∈ L, Beats (L.foldl (Cert.ReferenceIdeal.reducer_argmax_f32_i32 (F := Ideal)) a) p := by
  induction L generalizing a with
  | nil => exact ⟨Or.inl rfl, Beats.refl _, by simp⟩
  | cons b L ih =>
    rw [List.foldl_cons]
    obtain ⟨h1, h2, h3⟩ := ih (Cert.ReferenceIdeal.reducer_argmax_f32_i32 (F := Ideal) a b)
    obtain ⟨k1, k2, k3⟩ := argmax_step a b
    refine ⟨?_, h2.trans k2, ?_⟩
    · rcases h1 with h1 | h1
      · rw [h1]
        rcases k1 with k1 | k1
        · exact Or.inl k1
        · exact Or.inr (by rw [k1]; exact List.mem_cons_self)
      · exact Or.inr (List.mem_cons_of_mem _ h1)
    · intro p hp
      rcases List.mem_cons.mp hp with rfl | hp
      · exact h2.trans k3
      · exact h3 p hp

/-- The reference's arg-max of a row whose gates are above minus infinity is its picked lane. -/
theorem amax_pick (g : Fl Cert.ReferenceIdeal.S8192x64) (s : Fin 8192) (e : Fin 64)
    (h : IsPick (fun k : Fin 64 => (g (ix2 s k) : EReal)) e) (hb : (⊥ : EReal) < g (ix2 s e)) :
    amax g (ix1 s) = BitVec.ofNat 32 e := by
  unfold amax
  rw [Ideal.argReduce_eq_reduce2, Host.reduce2_eq_foldl_fiber]
  have hmem : ∀ p : EReal × BitVec 32, p ∈ Host.argReduceFiber g (iotaInDim Cert.ReferenceIdeal.S8192x64 32 1)
      Cert.ReferenceIdeal.Facts₀.reducesTo_S8192x64_S8192_d1 (ix1 s)
        ↔ ∃ k : Fin 64, p = ((g (ix2 s k) : EReal), BitVec.ofNat 32 k) := by
    intro p
    rw [Host.argReduceFiber, List.mem_map]
    constructor
    · rintro ⟨n, hn, rfl⟩
      have hn := of_decide_eq_true (List.mem_filter.mp hn).2
      obtain ⟨k, hk⟩ := (Shape.ReducesTo.fiber_r2_a1 _ _ _).mp hn
      exact ⟨k, by rw [← hk]; rfl⟩
    · rintro ⟨k, rfl⟩
      refine ⟨Cert.ReferenceIdeal.S8192x64.rowMajor (ix2 s k), List.mem_filter.mpr ⟨List.mem_finRange _, ?_⟩, ?_⟩
      · rw [Equiv.symm_apply_apply, decide_eq_true_eq]
        exact (Shape.ReducesTo.fiber_r2_a1 _ _ _).mpr ⟨k, rfl⟩
      · rw [Equiv.symm_apply_apply]; rfl
  obtain ⟨h1, h2, h3⟩ := foldl_argmax (Host.argReduceFiber g (iotaInDim Cert.ReferenceIdeal.S8192x64 32 1)
      Cert.ReferenceIdeal.Facts₀.reducesTo_S8192x64_S8192_d1 (ix1 s)) (⊥, 0#32)
  have ha : ((constant Cert.ReferenceIdeal.S_ FTy.f32 (4286578688#32) (Shape.Idx.first Cert.ReferenceIdeal.Facts₀.h_S_) : Ideal .f32),
      constantI Cert.ReferenceIdeal.S_ 32 (0#32) (Shape.Idx.first Cert.ReferenceIdeal.Facts₀.h_S_)) = ((⊥ : EReal), 0#32) :=
    Prod.ext ofBits_bot rfl
  rw [show (constant (F := Ideal) Cert.ReferenceIdeal.S_ FTy.f32 (4286578688#32) (Shape.Idx.first Cert.ReferenceIdeal.Facts₀.h_S_),
      constantI Cert.ReferenceIdeal.S_ 32 (0#32) (Shape.Idx.first Cert.ReferenceIdeal.Facts₀.h_S_)) = ((⊥ : EReal), 0#32) from ha]
  have hbeat := h3 _ ((hmem _).mpr ⟨e, rfl⟩)
  rcases h1 with h1 | h1
  · rw [h1] at hbeat
    rcases hbeat with hbeat | ⟨hbeat, -⟩
    · exact absurd hbeat (not_lt.mpr bot_le)
    · exact absurd hbeat hb.ne'
  · obtain ⟨k, hk⟩ := (hmem _).mp h1
    rw [hk] at hbeat ⊢
    have hke : k = e := by
      rcases hbeat with hbeat | ⟨hbeat, hle⟩
      · rcases h k with a | ⟨a, -⟩
        · exact absurd hbeat (not_lt.mpr a.le)
        · exact absurd hbeat (not_lt.mpr a.le)
      · rw [toInt_lane (by decide), toInt_lane (by decide)] at hle
        rcases h k with a | ⟨-, b⟩
        · exact absurd hbeat a.ne'
        · exact le_antisymm (by exact_mod_cast hle) b
    rw [hke]

end Cert.Proof.Tok

end
-- ==== Proof.Gate.lean ====
/- The gates of finite logits, the chosen experts, the counts and the balancing loss: the reference and the routing
   kernel agree on them. -/
module

public import proofs.«01_k».proof.Proof.Choice

@[expose] public section

set_option maxRecDepth 16384

noncomputable section

namespace Cert.Proof.Tok

open Idealize.ShloMosaic Cert.Proof.RefRun Cert.KernelIdeal.Gen

/-- The idealized kernel's side conditions. -/
instance : Cert.KernelIdeal.Facts := Cert.KernelIdeal.Gen.facts

/-- The extended real of a finite sum of reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A quotient of reals whose divisor is not nought. -/
theorem div_real (a b : ℝ) (hb : b ≠ 0) : Ideal.div (a : EReal) (b : EReal) = ((a / b : ℝ) : EReal) := by
  rw [Ideal.div_coe hb, ← EReal.coe_mul, mul_one_div]

/-- Finite operands have finite logits. -/
theorem logits_real {x : Fl Cert.ReferenceIdeal.S8192x768} {w : Fl Cert.ReferenceIdeal.S64x768}
    (hx : ∀ i, ∃ r : ℝ, (x i : EReal) = r) (hw : ∀ i, ∃ r : ℝ, (w i : EReal) = r) :
    ∃ r : Fin 8192 → Fin 64 → ℝ, ∀ s e, (logits x w (ix2 s e) : EReal) = r s e := by
  choose a ha using hx
  choose b hb using hw
  refine ⟨fun s e => ∑ k : Fin 768, a (ix2 s k) * b (ix2 e k), fun s e => ?_⟩
  pointwise [logits]
  rw [coe_sum]
  refine Finset.sum_congr rfl fun k _ => ?_
  rw [EReal.coe_mul, ← ha, ← hb]

/-- The kernel's logits are the reference's. -/
theorem pay1_eq (x : Fl Cert.ReferenceIdeal.S8192x768) (w : Fl Cert.ReferenceIdeal.S64x768) :
    k0_pay1 (F := Ideal) x w = logits x w := by
  funext i
  idx_vars i
  pointwise [logits, k0_pay1]

/-- The kernel's exponentials are the reference's. -/
theorem pay3_eq (x : Fl Cert.ReferenceIdeal.S8192x768) (w : Fl Cert.ReferenceIdeal.S64x768) :
    k0_pay3 (F := Ideal) x w = exps (logits x w) := by
  funext i
  idx_vars i
  pointwise [exps, k0_pay3, k0_pay2]
  rw [pay1_eq, ofBits_bot, max_eq_right bot_le]

/-- The kernel's column sums are those of the reference's gates. -/
theorem pay5_apply (x : Fl Cert.ReferenceIdeal.S8192x768) (w : Fl Cert.ReferenceIdeal.S64x768) (e : Fin 64) :
    (k0_pay5 (F := Ideal) x w (ix2 0 e) : EReal) = ∑ s : Fin 8192, (gates (exps (logits x w)) (ix2 s e) : EReal) := by
  pointwise [k0_pay5, k0_pay4, gates]
  rw [pay3_eq]

variable (l : Fl Cert.ReferenceIdeal.S8192x64) (s : Fin 8192) (r : Fin 64 → ℝ) (e₀ : Fin 64)

/-- The exponentials of a row of finite logits. -/
theorem exps_row (hl : ∀ k, (l (ix2 s k) : EReal) = r k) (hp : IsPick (fun k => (l (ix2 s k) : EReal)) e₀) (e : Fin 64) :
    (exps l (ix2 s e) : EReal) = (Real.exp (r e - r e₀) : ℝ) := by
  pointwise [exps]
  rw [ofBits_bot, max_eq_right bot_le, hp.fold_max, hl, hl, ← EReal.coe_sub, Ideal.exp_coe]

/-- The sum of the exponentials of a row is above nought. -/
theorem sum_pos : 0 < ∑ k : Fin 64, Real.exp (r k - r e₀) :=
  Finset.sum_pos (fun _ _ => Real.exp_pos _) ⟨0, Finset.mem_univ _⟩

/-- The gates of a row of finite logits. -/
theorem gates_row (hl : ∀ k, (l (ix2 s k) : EReal) = r k) (hp : IsPick (fun k => (l (ix2 s k) : EReal)) e₀) (e : Fin 64) :
    (gates (exps l) (ix2 s e) : EReal) = (Real.exp (r e - r e₀) / ∑ k, Real.exp (r k - r e₀) : ℝ) := by
  pointwise [gates]
  rw [exps_row l s r e₀ hl hp, Finset.sum_congr rfl fun k _ => exps_row l s r e₀ hl hp k, ← coe_sum,
    div_real _ _ (sum_pos r e₀).ne']

/-- The gates of a row of finite logits order the lanes as the logits do. -/
theorem gates_pick (hl : ∀ k, (l (ix2 s k) : EReal) = r k) (hp : IsPick (fun k => (l (ix2 s k) : EReal)) e₀) :
    IsPick (fun k => (gates (exps l) (ix2 s k) : EReal)) e₀ := by
  refine hp.of_iff (fun a b h => ?_) (fun a b h => ?_)
  · simp only [gates_row l s r e₀ hl hp]
    simp only [hl, EReal.coe_lt_coe_iff] at h ⊢
    exact div_lt_div_of_pos_right (Real.exp_lt_exp.mpr (by linarith)) (sum_pos r e₀)
  · simp only [gates_row l s r e₀ hl hp]
    simp only [hl, EReal.coe_eq_coe_iff] at h
    rw [h]

/-- The reference chooses the first lane of greatest logit. -/
theorem amax_eq (hl : ∀ k, (l (ix2 s k) : EReal) = r k) (hp : IsPick (fun k => (l (ix2 s k) : EReal)) e₀) :
    amax (gates (exps l)) (ix1 s) = BitVec.ofNat 32 e₀ :=
  amax_pick _ _ _ (gates_pick l s r e₀ hl hp) (by rw [gates_row l s r e₀ hl hp]; exact EReal.bot_lt_coe _)

/-- The routing kernel chooses the first lane of greatest logit. -/
theorem pay6_eq (x : Fl Cert.ReferenceIdeal.S8192x768) (w : Fl Cert.ReferenceIdeal.S64x768)
    (hp : IsPick (fun k => (logits x w (ix2 s k) : EReal)) e₀) :
    k0_pay6 (F := Ideal) x w (ix2 s 0) = BitVec.ofNat 32 e₀ := by
  pointwise [k0_pay6, k0_pay2]
  rw [pay1_eq, ofBits_bot, hp.fold_max]
  exact fold_minsi hp

variable (pk : Fin 8192 → Fin 64)

/-- The reference's one-hot of the chosen lanes. -/
theorem oneHot_apply (a : In Cert.ReferenceIdeal.S8192) (ha : ∀ s, a (ix1 s) = BitVec.ofNat 32 (pk s)) (e : Fin 64) :
    oneHot a (ix2 s e) = if pk s = e then 1#32 else 0#32 := by
  pointwise [oneHot]
  rw [ha, setWidth_cmpi_eq (by decide)]

/-- The kernel's mask of the chosen lanes. -/
theorem pay7_apply (x : Fl Cert.ReferenceIdeal.S8192x768) (w : Fl Cert.ReferenceIdeal.S64x768)
    (ha : ∀ s, k0_pay6 (F := Ideal) x w (ix2 s 0) = BitVec.ofNat 32 (pk s)) (e : Fin 64) :
    k0_pay7 (F := Ideal) x w (ix2 s e) = if pk s = e then 1#1 else 0#1 := by
  have h : BitVec.setWidth 32 (k0_pay7 (F := Ideal) x w (ix2 s e)) = if e = pk s then 1#32 else 0#32 := by
    pointwise [k0_pay7]
    rw [ha, setWidth_cmpi_eq (by decide)]
  by_cases hpe : pk s = e
  · rw [if_pos hpe]
    rw [if_pos hpe.symm] at h
    rcases BitVec.eq_zero_or_eq_one (k0_pay7 (F := Ideal) x w (ix2 s e)) with h0 | h0
    · rw [h0] at h; exact absurd h (by decide)
    · exact h0
  · rw [if_neg hpe]
    rw [if_neg (fun h => hpe h.symm)] at h
    rcases BitVec.eq_zero_or_eq_one (k0_pay7 (F := Ideal) x w (ix2 s e)) with h0 | h0
    · exact h0
    · rw [h0] at h; exact absurd h (by decide)

/-- How many tokens chose an expert. -/
def cnt (e : Fin 64) : ℕ := (Finset.univ.filter fun s : Fin 8192 => pk s = e).card

/-- No expert has more than all tokens. -/
theorem cnt_le (e : Fin 64) : cnt pk e ≤ 8192 := by
  refine (Finset.card_le_univ _).trans ?_
  rw [Fintype.card_fin]

/-- The reference's counts. -/
theorem counts_apply (a : In Cert.ReferenceIdeal.S8192) (ha : ∀ s, a (ix1 s) = BitVec.ofNat 32 (pk s)) (e : Fin 64) :
    counts (oneHot a) (ix1 e) = BitVec.ofNat 32 (cnt pk e) := by
  pointwise [counts]
  rw [show (fun x => oneHot a (ix2 x e)) = fun x => if pk x = e then 1#32 else 0#32 from
    funext fun x => oneHot_apply x pk a ha e]
  exact fold_addi _ _

/-- The kernel's counts. -/
theorem pay8_apply (x : Fl Cert.ReferenceIdeal.S8192x768) (w : Fl Cert.ReferenceIdeal.S64x768)
    (ha : ∀ s, k0_pay6 (F := Ideal) x w (ix2 s 0) = BitVec.ofNat 32 (pk s)) (e : Fin 64) :
    k0_pay8 (F := Ideal) x w (ix2 0 e) = BitVec.ofNat 32 (cnt pk e) := by
  pointwise [k0_pay8]
  rw [show (fun x_1 => BitVec.setWidth 32 (k0_pay7 (F := Ideal) x w (ix2 x_1 e)))
      = fun s => if pk s = e then 1#32 else 0#32 from
    funext fun s => by rw [pay7_apply s pk x w ha]; split <;> rfl]
  exact fold_addi _ _

/-- The patterns of 8192, 64 and 2⁻²⁰. -/
theorem ofBits_8192 : Ideal.ofBits FTy.f32 1174405120#32 = ((8192 : ℝ) : EReal) := by
  simp [Ideal.ofBits, Ideal.ieee]
  rw [← EReal.coe_mul]
  norm_num

/-- The word that stands for 64. -/
theorem ofBits_64 : Ideal.ofBits FTy.f32 1115684864#32 = ((64 : ℝ) : EReal) := by
  simp [Ideal.ofBits, Ideal.ieee]
  rw [← EReal.coe_mul]
  norm_num

/-- The word that stands for one over 2 ^ 20. -/
theorem ofBits_2m20 : Ideal.ofBits FTy.f32 897581056#32 = ((1 / 1048576 : ℝ) : EReal) := by
  simp [Ideal.ofBits, Ideal.ieee]
  rw [← EReal.coe_mul]
  norm_num

/-- The balancing loss of the reference, of real gates `g` and the chosen lanes. -/
theorem laux_apply (G : Fl Cert.ReferenceIdeal.S8192x64) (g : Fin 8192 → Fin 64 → ℝ) (hG : ∀ s e, (G (ix2 s e) : EReal) = g s e)
    (a : In Cert.ReferenceIdeal.S8192) (ha : ∀ s, a (ix1 s) = BitVec.ofNat 32 (pk s)) :
    (laux G (oneHot a) ix0 : EReal) = ((∑ e, (∑ s, g s e) * cnt pk e) * (1 / 1048576) : ℝ) := by
  have hc : ∀ e : Fin 64, (∑ s : Fin 8192, (FloatOps.sitofp (F := Ideal) FTy.f32 (oneHot a (ix2 s e)) : EReal))
      = ((cnt pk e : ℝ) : EReal) := by
    intro e
    rw [Finset.sum_congr rfl (g := fun s : Fin 8192 => (((if pk s = e then 1 else 0 : ℝ)) : EReal)) (fun s _ => ?_),
      ← coe_sum, Finset.sum_boole]
    · rfl
    · rw [oneHot_apply s pk a ha]
      split
      · exact congrArg (fun z : ℤ => ((z : ℝ) : EReal)) (show (1#32 : BitVec 32).toInt = 1 by decide) |>.trans (by norm_num)
      · exact congrArg (fun z : ℤ => ((z : ℝ) : EReal)) (show (0#32 : BitVec 32).toInt = 0 by decide) |>.trans (by norm_num)
  pointwise [laux, means]
  rw [ofBits_8192, ofBits_64]
  rw [Finset.sum_congr rfl (g := fun e : Fin 64 => (((∑ s, g s e) / 8192 * (cnt pk e / 8192) : ℝ) : EReal)) (fun e _ => ?_),
    ← coe_sum, ← EReal.coe_mul]
  · congr 1
    rw [Finset.sum_mul, Finset.sum_mul]
    refine Finset.sum_congr rfl fun e _ => ?_
    ring
  · rw [hc, Finset.sum_congr rfl fun s _ => hG s e, ← coe_sum, div_real _ _ (by norm_num), div_real _ _ (by norm_num),
      ← EReal.coe_mul]

/-- The balancing loss of the routing kernel, of real column sums and counts. -/
theorem pay72_apply (u : FVec Ideal Cert.KernelIdeal.S1x64 .f32) (v : IVec Cert.KernelIdeal.S1x64 32) (t : Fin 64 → ℝ)
    (hu : ∀ e, (u (ix2 0 e) : EReal) = t e) (hv : ∀ e, v (ix2 0 e) = BitVec.ofNat 32 (cnt pk e)) :
    (k0_pay72 (F := Ideal) u v (ix2 0 0) : EReal) = ((∑ e, t e * cnt pk e) * (1 / 1048576) : ℝ) := by
  pointwise [k0_pay72]
  rw [ofBits_2m20, Fin.sum_univ_one,
    Finset.sum_congr rfl (g := fun e : Fin 64 => ((t e * cnt pk e : ℝ) : EReal)) (fun e _ => ?_),
    ← coe_sum, ← EReal.coe_mul]
  rw [hu, hv, EReal.coe_mul]
  congr 1
  refine congrArg (fun z : ℤ => ((z : ℝ) : EReal)) (show _ = ((cnt pk e : ℕ) : ℤ) from ?_) |>.trans (by norm_num)
  have := cnt_le pk e
  rw [BitVec.toInt_eq_toNat_of_lt] <;> rw [BitVec.toNat_ofNat, Nat.mod_eq_of_lt] <;> omega

end Cert.Proof.Tok

end
-- ==== Proof.KVal.lean ====
/- What the idealized kernel leaves in its results, over the contents the regions start from. -/
module

public import proofs.«01_k».proof.Proof.Route
public import proofs.«01_k».proof.Proof.Ssa
public import Idealize.ShloMosaic.Lib.Pipeline.ValueKit
public import Idealize.ShloMosaic.Lib.Pointwise

@[expose] public section

set_option maxRecDepth 16384

noncomputable section

namespace Cert.Proof.KVal

open Idealize.ShloMosaic Idealize.ShloMosaic.TcCoe Idealize.ShloMosaic.StableHlo Cert.KernelIdeal Cert.KernelIdeal.Gen
open Idealize.ShloMosaic.Pipeline (Dat)

section Region0

variable (V : (c : Dev nD) → (b : Ref sig .tc) → Buf (Elt Ideal) (c.tc.loc b)) (c : Dev nD)

/-- The windows of the operands stand at the origin. -/
theorem ix0_0 : ∀ t : Fin cfg0.N, win0_0.index t = ![0, 0] := by decide +kernel
/-- The first launch sees its second operand whole. -/
theorem ix0_1 : ∀ t : Fin cfg0.N, win0_1.index t = ![0, 0] := by decide +kernel
/-- The first launch sees its third operand whole. -/
theorem ix0_2 : ∀ t : Fin cfg0.N, win0_2.index t = ![0, 0] := by decide +kernel

/-- The routing kernel's first operand is the whole of the tokens. -/
theorem blk0 (t : Fin cfg0.N) : iblk0 V c 0 t = V c main_arg0 := by
  funext j
  blk_ext [iblk0, ix0_0 t]

/-- The routing kernel's second operand is the whole of the weights. -/
theorem blk1 (t : Fin cfg0.N) : iblk0 V c 1 t = V c main_arg1 := by
  funext j
  blk_ext [iblk0, ix0_1 t]

/-- The routing kernel's third operand is the whole of the ranks. -/
theorem blk2 (t : Fin cfg0.N) : iblk0 V c 2 t = V c main_v190 := by
  funext j
  blk_ext [iblk0, ix0_2 t]

/-- The routing kernel runs one grid point. -/
noncomputable def t₀ : Fin cfg0.N := ⟨0, by decide⟩

/-- The array of the chosen experts after the routing kernel. -/
theorem arr_3 : (dat0 V c).arrAt 3 cfg0.N = (outsAt0 V c t₀).1 := by
  refine (dat0 V c).arrAt_eq_of_after_last 3 t₀ (by decide +kernel) _ fun j => ?_
  exact congrFun (after0_3 V c t₀) j

/-- The array of the slots after the routing kernel. -/
theorem arr_4 : (dat0 V c).arrAt 4 cfg0.N = (outsAt0 V c t₀).2.1 := by
  refine (dat0 V c).arrAt_eq_of_after_last 4 t₀ (by decide +kernel) _ fun j => ?_
  exact congrFun (after0_4 V c t₀) j

/-- The array of the reciprocal sums after the routing kernel. -/
theorem arr_5 : (dat0 V c).arrAt 5 cfg0.N = (outsAt0 V c t₀).2.2.1 := by
  refine (dat0 V c).arrAt_eq_of_after_last 5 t₀ (by decide +kernel) _ fun j => ?_
  exact congrFun (after0_5 V c t₀) j

/-- The array of the kept marks after the routing kernel. -/
theorem arr_6 : (dat0 V c).arrAt 6 cfg0.N = (outsAt0 V c t₀).2.2.2.1 := by
  refine (dat0 V c).arrAt_eq_of_after_last 6 t₀ (by decide +kernel) _ fun j => ?_
  exact congrFun (after0_6 V c t₀) j

/-- The array of the counts after the routing kernel. -/
theorem arr_7 : (dat0 V c).arrAt 7 cfg0.N = (outsAt0 V c t₀).2.2.2.2.1 := by
  refine (dat0 V c).arrAt_eq_of_after_last 7 t₀ (by decide +kernel) _ fun j => ?_
  exact congrFun (after0_7 V c t₀) j

/-- The array of the balancing loss after the routing kernel. -/
theorem arr_8 : (dat0 V c).arrAt 8 cfg0.N = (outsAt0 V c t₀).2.2.2.2.2 := by
  refine (dat0 V c).arrAt_eq_of_after_last 8 t₀ (by decide +kernel) _ fun j => ?_
  exact congrFun (after0_8 V c t₀) j

end Region0

section Host2

variable (m : (ℓ : Loc nD τ sig) → Buf (Elt Ideal) ℓ) (ρ : Dev nD → PrngReg) (c : Dev nD)

/-- The last host line's results are numbered in order. -/
noncomputable def ssa2 : Ssa (hostOps2 (F := Ideal)) where
  W := hostOps2_W
  hW := rfl
  base := 287
  hs := by decide +kernel

/-- The tokens and the weights are as launched when the routing kernel starts. -/
theorem V4_arg0 : V4 m ρ c main_arg0 = m ((c : Thread nD τ).loc main_arg0) := W4_args m ρ c main_arg0 (by decide)
/-- The first launch finds the second argument unchanged. -/
theorem V4_arg1 : V4 m ρ c main_arg1 = m ((c : Thread nD τ).loc main_arg1) := W4_args m ρ c main_arg1 (by decide)

/-- The counts at the end. -/
theorem W7_counts : W7 m ρ c (Proc.devRef .tc main_v197)
    = shapeCast S64 (k0_pay8 (F := Ideal) (m ((c : Thread nD τ).loc main_arg0)) (m ((c : Thread nD τ).loc main_arg1)))
      (by decide) := by
  refine (ssa2.resh _ main_v191_4 main_v197 rfl).trans ?_
  rw [ssa2.arg _ (x := main_v191_4) (by decide), W6_of_ne m ρ c main_v191_4 (by decide),
    show W5 m ρ c (Proc.devRef .tc main_v191_4) = _ from W5_arr m ρ c 7, arr_7, Route.out_cnt, blk0, blk1, V4_arg0, V4_arg1]
  rfl

/-- The balancing loss at the end. -/
theorem W7_laux : W7 m ρ c (Proc.devRef .tc main_v196)
    = shapeCast S_ (k0_pay72 (F := Ideal) (k0_pay5 (F := Ideal) (m ((c : Thread nD τ).loc main_arg0)) (m ((c : Thread nD τ).loc main_arg1)))
        (k0_pay8 (F := Ideal) (m ((c : Thread nD τ).loc main_arg0)) (m ((c : Thread nD τ).loc main_arg1)))) (by decide) := by
  refine (ssa2.resh _ main_v191_5 main_v196 rfl).trans ?_
  rw [ssa2.arg _ (x := main_v191_5) (by decide), W6_of_ne m ρ c main_v191_5 (by decide),
    show W5 m ρ c (Proc.devRef .tc main_v191_5) = _ from W5_arr m ρ c 8, arr_8, Route.out_laux, blk0, blk1, V4_arg0, V4_arg1]
  rfl

end Host2

end Cert.Proof.KVal

end
-- ==== Proof.Agree.lean ====
/- The balancing loss and the counts: what the idealized kernel leaves is what the reference leaves. -/
module

public import proofs.«01_k».proof.Pre_finite_args
public import proofs.«01_k».proof.Proof.Gate
public import proofs.«01_k».proof.Proof.KVal

@[expose] public section

set_option maxRecDepth 16384

noncomputable section

namespace Cert.Proof.Agree

open Idealize.ShloMosaic Idealize.ShloMosaic.StableHlo Cert.Proof.RefRun Cert.Proof.Tok Cert.KernelIdeal.Gen

/-- A conjunction of one-bit words that is one has every word one. -/
theorem of_fold_andi {ι : Type} [DecidableEq ι] (S : Finset ι) (f : ι → BitVec 1)
    (h : Finset.fold IntOp.andi (1#1) f S = 1#1) : ∀ i ∈ S, f i = 1#1 := by
  induction S using Finset.induction_on with
  | empty => simp
  | insert a S ha ih =>
    rw [Finset.fold_insert ha] at h
    have h2 : ∀ p q : BitVec 1, IntOp.andi p q = 1#1 → p = 1#1 ∧ q = 1#1 := by decide
    obtain ⟨h3, h4⟩ := h2 _ _ h
    intro i hi
    rcases Finset.mem_insert.mp hi with rfl | hi
    · exact h3
    · exact ih h4 i hi

/-- A value whose size is below infinity is a real number. -/
theorem real_of_abs_lt (z : EReal) (h : Ideal.cmp .olt (max z (-z)) (Ideal.ofBits FTy.f32 0x7F800000#32) = 1#1) :
    ∃ r : ℝ, z = r := by
  have ht : Ideal.ofBits FTy.f32 0x7F800000#32 = ⊤ := by simp [Ideal.ofBits, Ideal.ieee]
  rw [ht] at h
  induction z with
  | bot => simp [Ideal.cmp] at h
  | top => simp [Ideal.cmp] at h
  | coe r => exact ⟨r, rfl⟩

/-- The precondition's side conditions. -/
instance : Cert.Pre_finite_args.Facts := by constructor <;> decide

/-- The precondition makes every entry of the two operands a real number. -/
theorem finite (x : Fl Cert.ReferenceIdeal.S8192x768) (w : Fl Cert.ReferenceIdeal.S64x768)
    (h : Cert.Pre_finite_args.fn (F := Ideal) x w = fun _ => 1#1) :
    (∀ i, ∃ r : ℝ, (x i : EReal) = r) ∧ (∀ i, ∃ r : ℝ, (w i : EReal) = r) := by
  have h0 := congrFun h ix0
  have h2 : ∀ p q : BitVec 1, IntOp.andi p q = 1#1 → p = 1#1 ∧ q = 1#1 := by decide
  obtain ⟨ha, hb⟩ := h2 _ _ h0
  dsimp only at ha hb
  rw [Host.reduce_eq_fold] at ha hb
  refine ⟨fun i => ?_, fun i => ?_⟩
  · exact real_of_abs_lt _ (of_fold_andi _ _ ha i (by rw [Finset.mem_filter]; exact ⟨Finset.mem_univ _, funext fun a => a.elim0⟩))
  · exact real_of_abs_lt _ (of_fold_andi _ _ hb i (by rw [Finset.mem_filter]; exact ⟨Finset.mem_univ _, funext fun a => a.elim0⟩))

section

variable (x : Fl Cert.ReferenceIdeal.S8192x768) (w : Fl Cert.ReferenceIdeal.S64x768)

/-- The chosen expert of a token. -/
noncomputable def pick (s : Fin 8192) : Fin 64 := (exists_pick fun k => (logits x w (ix2 s k) : EReal)).choose

/-- The chosen expert has the largest logit, the first of equals. -/
theorem pick_spec (s : Fin 8192) : IsPick (fun k => (logits x w (ix2 s k) : EReal)) (pick x w s) :=
  (exists_pick fun k => (logits x w (ix2 s k) : EReal)).choose_spec

/-- The kernel's chosen experts. -/
theorem k_pick (s : Fin 8192) : k0_pay6 (F := Ideal) x w (ix2 s 0) = BitVec.ofNat 32 (pick x w s) :=
  pay6_eq s _ x w (pick_spec x w s)

variable (hx : ∀ i, ∃ r : ℝ, (x i : EReal) = r) (hw : ∀ i, ∃ r : ℝ, (w i : EReal) = r)

include hx hw in
/-- The reference's chosen experts. -/
theorem r_pick (s : Fin 8192) : amax (gates (exps (logits x w))) (ix1 s) = BitVec.ofNat 32 (pick x w s) := by
  obtain ⟨r, hr⟩ := logits_real hx hw
  exact amax_eq _ s (r s) _ (hr s) (pick_spec x w s)

include hx hw in
/-- The counts agree. -/
theorem counts_eq (e : Fin 64) : k0_pay8 (F := Ideal) x w (ix2 0 e)
    = counts (oneHot (amax (gates (exps (logits x w))))) (ix1 e) := by
  rw [pay8_apply (pick x w) x w (k_pick x w), counts_apply (pick x w) _ (r_pick x w hx hw)]

include hx hw in
/-- The gates are real numbers. -/
theorem gates_real : ∃ g : Fin 8192 → Fin 64 → ℝ, ∀ s e, (gates (exps (logits x w)) (ix2 s e) : EReal) = g s e := by
  obtain ⟨r, hr⟩ := logits_real hx hw
  exact ⟨_, fun s e => gates_row _ s (r s) _ (hr s) (pick_spec x w s) e⟩

include hx hw in
/-- The balancing losses agree. -/
theorem laux_eq : (k0_pay72 (F := Ideal) (k0_pay5 (F := Ideal) x w) (k0_pay8 (F := Ideal) x w) (ix2 0 0) : EReal)
    = laux (gates (exps (logits x w))) (oneHot (amax (gates (exps (logits x w))))) ix0 := by
  obtain ⟨g, hg⟩ := gates_real x w hx hw
  rw [laux_apply (pick x w) _ g hg _ (r_pick x w hx hw),
    pay72_apply (pick x w) _ _ (fun e => ∑ s, g s e) (fun e => ?_) (pay8_apply (pick x w) x w (k_pick x w))]
  rw [pay5_apply, coe_sum]
  exact Finset.sum_congr rfl fun s _ => hg s e

end

section

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (V : Valuation Cert.ReferenceIdeal.τ Cert.ReferenceIdeal.sig (Elt Ideal))
  (h0 : V (Proc.devRef .tc Cert.ReferenceIdeal.main_arg0) = m ((c.tc : Thread _ _).loc Cert.KernelIdeal.main_arg0))
  (h1 : V (Proc.devRef .tc Cert.ReferenceIdeal.main_arg1) = m ((c.tc : Thread _ _).loc Cert.KernelIdeal.main_arg1))
  (hp : Cert.Pre_finite_args.fn (F := Ideal) (m ((c.tc : Thread _ _).loc Cert.KernelIdeal.main_arg0))
    (m ((c.tc : Thread _ _).loc Cert.KernelIdeal.main_arg1)) = fun _ => 1#1)

include h0 h1 in
/-- The reference's logits are those of the kernel's operands. -/
theorem r_logits : after ops V (Proc.devRef .tc Cert.ReferenceIdeal.main_v1)
    = logits (m ((c.tc : Thread _ _).loc Cert.KernelIdeal.main_arg0)) (m ((c.tc : Thread _ _).loc Cert.KernelIdeal.main_arg1)) := by
  rw [a_logits, ssa.arg V (x := Cert.ReferenceIdeal.main_arg0) (by decide),
    ssa.arg V (x := Cert.ReferenceIdeal.main_arg1) (by decide), h0, h1]

include h0 h1 hp in
/-- The counts' buffers end alike. -/
theorem counts_end (i) : W7 m ρ c (Proc.devRef .tc Cert.KernelIdeal.main_v197) i
    = after ops V (Proc.devRef .tc Cert.ReferenceIdeal.main_v15) i := by
  obtain ⟨hx, hw⟩ := finite _ _ hp
  rw [a_counts, a_oneHot, a_amax, a_gates, a_exps, r_logits m c V h0 h1, KVal.W7_counts]
  refine Eq.trans ?_ ((counts_eq _ _ hx hw (i 0)).trans ?_)
  · pointwise
  · exact congrArg _ (eq_ix1 i).symm

include h0 h1 hp in
/-- The balancing losses' buffers end alike. -/
theorem laux_end (i) : W7 m ρ c (Proc.devRef .tc Cert.KernelIdeal.main_v196) i
    = after ops V (Proc.devRef .tc Cert.ReferenceIdeal.main_v25) i := by
  obtain ⟨hx, hw⟩ := finite _ _ hp
  rw [a_laux, a_oneHot, a_amax, a_gates, a_exps, r_logits m c V h0 h1, KVal.W7_laux]
  refine Eq.trans ?_ ((laux_eq _ _ hx hw).trans ?_)
  · pointwise
  · exact congrArg _ (funext fun a => a.elim0)

end

end Cert.Proof.Agree

end
-- ==== Proof.Sorted.lean ====
/- A stable sort by real keys: which positions it puts before which. -/
module

public import Idealize.ShloMosaic.Lib.SortFacts
public import Idealize.ShloMosaic.Lib.Pointwise

@[expose] public section

noncomputable section

namespace Cert.Proof.Sorted

open Idealize.ShloMosaic

/-- Position `a` comes before position `b` in a stable sort by the key `x`. -/
def Before {n : ℕ} (x : Fin n → ℝ) (a b : Fin n) : Prop := x a < x b ∨ (x a = x b ∧ a < b)

open Classical in
/-- A stable sort of positions in order by the key is the sort by the key and then the position. -/
theorem stableSort_before {n : ℕ} (x : Fin n → ℝ) (R : Fin n → Fin n → Bool) (hR : ∀ a b, R a b = decide (x a < x b))
    (l : List (Fin n)) (hl : l.Pairwise (· < ·)) :
    stableSort R l = stableSort (fun a b => decide (Before x a b)) l := by
  induction l with
  | nil => rfl
  | cons a l ih =>
    rw [List.pairwise_cons] at hl
    unfold stableSort
    rw [ih hl.2]
    refine insertBefore_congr _ _ _ _ fun b hb => ?_
    have hab := hl.1 b ((perm_stableSort _ l).mem_iff.mp hb)
    rw [hR, decide_eq_decide]
    constructor
    · exact Or.inl
    · rintro (h | ⟨-, h⟩)
      · exact h
      · exact absurd h (not_lt.mpr hab.le)

/-- The sorted order of the positions: each has a place, and the places are in order. -/
theorem exists_place {n : ℕ} (x : Fin n → ℝ) (R : Fin n → Fin n → Bool) (hR : ∀ a b, R a b = decide (x a < x b)) :
    ∃ rk : Fin n → Fin n, (∀ s, sortedFrom R (rk s) = s) ∧ (∀ p, rk (sortedFrom R p) = p)
      ∧ ∀ t s, rk t < rk s ↔ Before x t s := by
  classical
  have hS : sortedFrom R = sortedFrom (fun a b => decide (Before x a b)) := by
    funext k
    unfold sortedFrom
    have : sortPositions n R = sortPositions n (fun a b => decide (Before x a b)) :=
      stableSort_before x R hR _ (List.pairwise_lt_finRange n)
    rw [List.get_of_eq this]
    rfl
  have hno : ∀ i j : Fin n, i < j → ¬ Before x (sortedFrom R j) (sortedFrom R i) := by
    intro i j hij
    rw [hS]
    have := sortedFrom_noInversion (fun a b => decide (Before x a b)) (fun a b => decide (Before x a b)) ?_ ?_ ?_ i j hij
    · simpa using this
    · intro a b h
      rw [decide_eq_true_eq] at h
      rw [decide_eq_false_iff_not]
      rcases h with h | ⟨h, h'⟩
      · rintro (k | ⟨k, k'⟩) <;> linarith
      · rintro (k | ⟨k, k'⟩)
        · linarith
        · exact absurd h' (not_lt.mpr k'.le)
    · exact fun a b h => h
    · intro a b c h h'
      rw [decide_eq_false_iff_not] at *
      simp only [Before, not_or, not_and, not_lt] at *
      refine ⟨h'.1.trans h.1, fun e => ?_⟩
      have e1 : x a = x b := le_antisymm (e ▸ h'.1) h.1
      have e2 : x b = x c := by rw [← e1, e]
      exact (h'.2 e2).trans (h.2 e1)
  have hinj := sortedFrom_injective R
  have htot : ∀ a b, a ≠ b → ¬ Before x a b → Before x b a := by
    intro a b hab h
    simp only [Before, not_or, not_and, not_lt] at *
    rcases lt_or_eq_of_le h.1 with h1 | h1
    · exact Or.inl h1
    · exact Or.inr ⟨h1, lt_of_le_of_ne (h.2 h1.symm) hab.symm⟩
  choose rk hrk using sortedFrom_surjective R
  have hrk' : ∀ p, rk (sortedFrom R p) = p := fun p => hinj (hrk _)
  refine ⟨rk, hrk, hrk', fun t s => ?_⟩
  constructor
  · intro h
    have h1 := hno _ _ h
    rw [hrk, hrk] at h1
    refine htot _ _ ?_ h1
    rintro rfl
    exact lt_irrefl _ h
  · intro h
    by_contra hn
    rcases lt_or_eq_of_le (not_lt.mp hn) with h1 | h1
    · have := hno _ _ h1
      rw [hrk, hrk] at this
      exact this h
    · have : s = t := by rw [← hrk s, ← hrk t, h1]
      subst this
      rcases h with h | ⟨-, h⟩ <;> exact lt_irrefl _ h

open Classical in
/-- A place is the number of the positions before. -/
theorem place_eq {n : ℕ} (x : Fin n → ℝ) (rk : Fin n → Fin n) (hrk : Function.Bijective rk)
    (h : ∀ t s, rk t < rk s ↔ Before x t s) (s : Fin n) : (rk s).val = (Finset.univ.filter fun t => Before x t s).card := by
  have h1 : (Finset.univ.filter fun t => Before x t s) = Finset.univ.filter fun t => rk t < rk s :=
    Finset.filter_congr fun t _ => (h t s).symm
  rw [h1, ← Fin.card_Iio (rk s)]
  symm
  refine Finset.card_bij (fun t _ => rk t) (fun t ht => by simpa using ht) (fun a _ b _ e => hrk.1 e) fun b hb => ?_
  obtain ⟨a, rfl⟩ := hrk.2 b
  exact ⟨a, by simpa using hb, rfl⟩

end Cert.Proof.Sorted

end
-- ==== Proof.Chosen.lean ====
/- Which tokens an expert keeps: the first few of its tokens in an order, found by sorting or by halving an interval. -/
module

public import proofs.«01_k».proof.Proof.Sorted
public import Idealize.ShloMosaic.Lib.Pointwise

@[expose] public section

namespace Cert.Proof.Chosen

open Cert.Proof.Sorted

variable {n : ℕ}

open scoped Classical in
/-- A token is kept when it is one of `M` and fewer than `C` tokens of `M` stand before it. -/
def Kept (M : Fin n → Prop) (x : Fin n → ℝ) (C : ℕ) (s : Fin n) : Prop :=
  M s ∧ (Finset.univ.filter fun t => M t ∧ Before x t s).card < C

open scoped Classical in
/-- How many tokens of `M` have a place below `m`. -/
noncomputable def below (M : Fin n → Prop) (rk : Fin n → Fin n) (m : ℕ) : ℕ :=
  (Finset.univ.filter fun t => M t ∧ (rk t).val < m).card

/-- More places, more tokens. -/
theorem below_mono (M : Fin n → Prop) (rk : Fin n → Fin n) {a b : ℕ} (h : a ≤ b) : below M rk a ≤ below M rk b := by
  classical
  refine Finset.card_le_card fun t ht => ?_
  rw [Finset.mem_filter] at ht ⊢
  exact ⟨ht.1, ht.2.1, by omega⟩

/-- The greatest bound below which at most `C` tokens of `M` stand bounds the places of the tokens kept. -/
theorem below_iff (M : Fin n → Prop) (x : Fin n → ℝ) (rk : Fin n → Fin n) (hinj : Function.Injective rk)
    (h : ∀ t s, rk t < rk s ↔ Before x t s) (C L : ℕ) (hL : below M rk L ≤ C) (hmax : ∀ m ≤ n, below M rk m ≤ C → m ≤ L) (s : Fin n) :
    (M s ∧ (rk s).val < L) ↔ Kept M x C s := by
  classical
  have h1 : (Finset.univ.filter fun t => M t ∧ Before x t s) = Finset.univ.filter fun t => M t ∧ (rk t).val < (rk s).val :=
    Finset.filter_congr fun t _ => and_congr_right fun _ => by rw [← h, Fin.lt_def]
  have h2 : M s → below M rk ((rk s).val + 1) = (Finset.univ.filter fun t => M t ∧ (rk t).val < (rk s).val).card + 1 := by
    intro hs
    rw [below, ← Finset.card_insert_of_notMem (a := s) (by simp)]
    refine congrArg Finset.card (Finset.ext fun t => ?_)
    simp only [Finset.mem_filter, Finset.mem_univ, true_and, Finset.mem_insert]
    constructor
    · rintro ⟨ht, hlt⟩
      by_cases hts : t = s
      · exact Or.inl hts
      · have : (rk t).val ≠ (rk s).val := fun e => hts (hinj (Fin.ext e))
        exact Or.inr ⟨ht, by omega⟩
    · rintro (rfl | ⟨ht, hlt⟩)
      · exact ⟨hs, by omega⟩
      · exact ⟨ht, by omega⟩
  unfold Kept
  refine and_congr_right fun hs => ?_
  rw [h1]
  constructor
  · intro hlt
    have := below_mono M rk (show (rk s).val + 1 ≤ L by omega)
    rw [h2 hs] at this
    omega
  · intro hc
    have := hmax ((rk s).val + 1) (rk s).isLt (by rw [h2 hs]; omega)
    omega

open scoped Classical in
/-- One halving of the interval. -/
noncomputable def halve (G : ℕ → Prop) (a : ℕ × ℕ) : ℕ × ℕ :=
  if G ((a.1 + a.2 + 1) / 2) then ((a.1 + a.2 + 1) / 2, a.2) else (a.1, (a.1 + a.2 + 1) / 2 - 1)

/-- An interval that brackets the greatest number with `G`. -/
def Bracket (G : ℕ → Prop) (N w : ℕ) (a : ℕ × ℕ) : Prop :=
  G a.1 ∧ a.1 ≤ a.2 ∧ a.2 ≤ N ∧ (∀ m ≤ N, G m → m ≤ a.2) ∧ a.2 - a.1 ≤ w

/-- Halving keeps the bracket, at half its width. -/
theorem halve_bracket (G : ℕ → Prop) (hG : ∀ a b, a ≤ b → G b → G a) {N w : ℕ} {a : ℕ × ℕ} (h : Bracket G N w a) :
    Bracket G N (w / 2) (halve G a) := by
  obtain ⟨h1, h2, h3, h4, h5⟩ := h
  unfold halve
  split
  · next hg => exact ⟨hg, by simp only; omega, h3, h4, by simp only; omega⟩
  · next hg =>
    have hlt : a.1 < (a.1 + a.2 + 1) / 2 := by
      by_contra hc
      exact hg (hG _ _ (by omega) h1)
    refine ⟨h1, by simp only; omega, by simp only; omega, fun m hm hgm => ?_, by simp only; omega⟩
    by_contra hc
    exact hg (hG _ m (by simp only at hc; omega) hgm)

/-- The places of the tokens in the order of `x` on `M`, the others having the key nought. -/
theorem place_kept (M : Fin n → Prop) [DecidablePred M] (x : Fin n → ℝ) (hx : ∀ s, x s < 0) (rk : Fin n → Fin n) (hrk : Function.Bijective rk)
    (h : ∀ t s, rk t < rk s ↔ Before (fun s => if M s then x s else 0) t s) (C : ℕ) (s : Fin n) (hs : M s) :
    (rk s).val < C ↔ Kept M x C s := by
  classical
  rw [place_eq _ rk hrk h s, Kept, and_iff_right hs]
  have hs0 := hx s
  have he : ∀ t, Before (fun s => if M s then x s else 0) t s ↔ M t ∧ Before x t s := by
    intro t
    by_cases ht : M t
    · simp [Before, hs, ht]
    · simp only [Before, hs, ht, if_true, if_false, false_and, iff_false, not_or, not_and, not_lt]
      exact ⟨hs0.le, fun h0 => absurd h0 (by linarith)⟩
  rw [Finset.filter_congr fun t _ => he t]
  constructor <;> intro h0 <;> convert h0

end Cert.Proof.Chosen
-- ==== Proof.KSel.lean ====
/- The kernel's search for the greatest number of places that fits, and the tokens it keeps. -/
module

public import proofs.«01_k».proof.Proof.Gate
public import proofs.«01_k».proof.Proof.Chosen
public import Idealize.ShloMosaic.Lib.Exec.Context

@[expose] public section

set_option maxRecDepth 16384

noncomputable section

namespace Cert.Proof.KSel

open Idealize.ShloMosaic Cert.KernelIdeal Cert.KernelIdeal.Gen Cert.Proof.Sorted Cert.Proof.Chosen

/-- A small number as a signed word. -/
theorem small {k : ℕ} (h : k < 2147483648) : (BitVec.ofNat 32 k).toInt = (k : ℤ) := by
  rw [BitVec.toInt_ofNat']
  simp only [Int.bmod]
  omega

/-- Comparing two small numbers as signed words. -/
theorem slt_ofNat {a b : ℕ} (ha : a < 2147483648) (hb : b < 2147483648) :
    IntOp.cmpi .slt (BitVec.ofNat 32 a) (BitVec.ofNat 32 b) = if a < b then 1#1 else 0#1 := by
  have h : IntOp.cmpi .slt (BitVec.ofNat 32 a) (BitVec.ofNat 32 b) = BitVec.ofBool (decide (a < b)) := by
    show BitVec.ofBool (BitVec.slt _ _) = _
    rw [BitVec.slt_eq_decide, small ha, small hb]
    exact congrArg _ (decide_eq_decide.2 Int.ofNat_lt)
  rw [h]
  by_cases hab : a < b <;> simp [hab]

/-- Comparing two small numbers as signed words, with equality. -/
theorem sle_ofNat {a b : ℕ} (ha : a < 2147483648) (hb : b < 2147483648) :
    IntOp.cmpi .sle (BitVec.ofNat 32 a) (BitVec.ofNat 32 b) = if a ≤ b then 1#1 else 0#1 := by
  have h : IntOp.cmpi .sle (BitVec.ofNat 32 a) (BitVec.ofNat 32 b) = BitVec.ofBool (decide (a ≤ b)) := by
    show BitVec.ofBool (BitVec.sle _ _) = _
    rw [BitVec.sle_eq_decide, small ha, small hb]
    exact congrArg _ (decide_eq_decide.2 Int.ofNat_le)
  rw [h]
  by_cases hab : a ≤ b <;> simp [hab]

/-- Half a small number. -/
theorem half_ofNat {t : ℕ} (ht : t < 2147483648) :
    IntOp.divsi .vector (BitVec.ofNat 32 t) 2#32 = BitVec.ofNat 32 (t / 2) := by
  have hc : ¬ IntOp.SDivCorner (BitVec.ofNat 32 t) 2#32 := by
    rintro (h | ⟨_, h⟩)
    · exact absurd h (by decide)
    · exact absurd h (by decide)
  have hm : (BitVec.ofNat 32 t).msb = false := by
    rw [BitVec.msb_eq_false_iff_two_mul_lt, BitVec.toNat_ofNat]
    omega
  rw [IntOp.divsi, if_neg hc, BitVec.sdiv_eq, hm]
  show BitVec.ofNat 32 t / 2#32 = _
  apply BitVec.eq_of_toNat_eq
  rw [BitVec.toNat_udiv, BitVec.toNat_ofNat, BitVec.toNat_ofNat, BitVec.toNat_ofNat,
    Nat.mod_eq_of_lt (show t < 2 ^ 32 by omega), Nat.mod_eq_of_lt (show t / 2 < 2 ^ 32 by omega)]

/-- The middle of two small numbers. -/
theorem mid_apply (lo hi : IVec S1x64 32) (e : Fin 64) {a b : ℕ} (ha : a ≤ 8192) (hb : b ≤ 8192)
    (h0 : lo (ix2 0 e) = BitVec.ofNat 32 a) (h1 : hi (ix2 0 e) = BitVec.ofNat 32 b) :
    k0_pay12 lo hi (ix2 0 e) = BitVec.ofNat 32 ((a + b + 1) / 2) := by
  have ht : IntOp.addi (IntOp.addi (lo (ix2 0 e)) (hi (ix2 0 e))) 1#32 = BitVec.ofNat 32 (a + b + 1) := by
    rw [h0, h1, BitVec.ofNat_add, BitVec.ofNat_add]
    rfl
  have hp : IntOp.cmpi .sgt (BitVec.ofNat 32 (a + b + 1)) 0#32 = 1#1 :=
    (slt_ofNat (a := 0) (b := a + b + 1) (by omega) (by omega)).trans (if_pos (by omega))
  have hn : IntOp.cmpi .slt (BitVec.ofNat 32 (a + b + 1)) 0#32 = 0#1 :=
    (slt_ofNat (a := a + b + 1) (b := 0) (by omega) (by omega)).trans (if_neg (by omega))
  pointwise [k0_pay12]
  rw [ht, hp, hn, half_ofNat (by omega),
    show IntOp.cmpi CmpIPredicate.ne (IntOp.subi (BitVec.setWidth 32 1#1) (BitVec.setWidth 32 0#1))
      (Scalar.subi (Scalar.extui (Scalar.cmpi CmpIPredicate.sgt 2#32 0#32)) (Scalar.extui (Scalar.cmpi CmpIPredicate.slt 2#32 0#32))) = 0#1 from by decide]
  have hz : ∀ y : BitVec 1, IntOp.andi 0#1 y = 0#1 := by decide
  rw [hz]
  rfl

variable (pk : Fin 8192 → Fin 64) (x : Vec Ideal S8192x768 .f32) (w : Vec Ideal S64x768 .f32)
  (ha : ∀ s, k0_pay6 (F := Ideal) x w (ix2 s 0) = BitVec.ofNat 32 (pk s))
  (rk : Fin 64 → Fin 8192 → Fin 8192) (r : Vec Ideal S8192x64 .i32) (hr : ∀ s e, r (ix2 s e) = BitVec.ofNat 32 (rk e s).val)

include ha hr

open scoped Classical in
/-- A token of the expert with a place below the bound. -/
theorem lane_apply (s : Fin 8192) (e : Fin 64) {v : BitVec 32} {m : ℕ} (hm : m ≤ 8192) (hv : v = BitVec.ofNat 32 m) :
    IntOp.andi (k0_pay7 x w (ix2 s e)) (IntOp.cmpi CmpIPredicate.slt (r (ix2 s e)) v)
      = if pk s = e ∧ (rk e s).val < m then 1#1 else 0#1 := by
  have h8 := (rk e s).isLt
  rw [Tok.pay7_apply s pk x w ha e, hr, hv, slt_ofNat (by omega) (by omega)]
  by_cases h1 : pk s = e <;> by_cases h2 : (rk e s).val < m <;> simp [h1, h2, IntOp.andi]

open scoped Classical in
/-- Whether the tokens with a place below the middle fit. -/
theorem fits_apply (lo hi : IVec S1x64 32) (e : Fin 64) {m : ℕ} (hm : m ≤ 8192) (hv : k0_pay12 lo hi (ix2 0 e) = BitVec.ofNat 32 m) :
    k0_pay13 x w r lo hi (ix2 0 e) = if below (fun t => pk t = e) (rk e) m ≤ 128 then 1#1 else 0#1 := by
  pointwise [k0_pay13, k0_pay9]
  have h : Finset.fold IntOp.addi (0#32) (fun t : Fin 8192 => BitVec.setWidth 32
        (IntOp.andi (k0_pay7 x w (ix2 t e)) (IntOp.cmpi CmpIPredicate.slt (r (ix2 t e)) (k0_pay12 lo hi (ix2 0 e))))) Finset.univ
      = BitVec.ofNat 32 (below (fun t => pk t = e) (rk e) m) := by
    rw [below, ← Tok.fold_addi]
    refine Finset.fold_congr fun t _ => ?_
    rw [lane_apply pk x w ha rk r hr t e hm hv]
    split <;> rfl
  rw [h]
  have hb : below (fun t => pk t = e) (rk e) m ≤ 8192 := (Finset.card_le_univ _).trans (by simp)
  exact sle_ofNat (b := 128) (by omega) (by omega)

omit ha hr in
/-- The two ends of the search, for every expert, bracket the greatest number that fits. -/
def Inv (wd : ℕ) (lo hi : IVec S1x64 32) : Prop :=
  ∀ e : Fin 64, ∃ a : ℕ × ℕ, lo (ix2 0 e) = BitVec.ofNat 32 a.1 ∧ hi (ix2 0 e) = BitVec.ofNat 32 a.2
    ∧ Bracket (fun m => below (fun t => pk t = e) (rk e) m ≤ 128) 8192 wd a

omit ha hr in
/-- The next lower end. -/
theorem low_apply (lo hi : IVec S1x64 32) (e : Fin 64) : k0_pay14 x w r lo hi (ix2 0 e)
    = Scalar.select (k0_pay13 x w r lo hi (ix2 0 e)) (k0_pay12 lo hi (ix2 0 e)) (lo (ix2 0 e)) := by
  pointwise [k0_pay14]

omit ha hr in
/-- The next upper end. -/
theorem high_apply (lo hi : IVec S1x64 32) (e : Fin 64) : k0_pay15 x w r lo hi (ix2 0 e)
    = Scalar.select (k0_pay13 x w r lo hi (ix2 0 e)) (hi (ix2 0 e)) (IntOp.subi (k0_pay12 lo hi (ix2 0 e)) 1#32) := by
  pointwise [k0_pay15]

/-- One step of the search halves the bracket. -/
theorem inv_step {wd : ℕ} {lo hi : IVec S1x64 32} (h : Inv pk rk wd lo hi) :
    Inv pk rk (wd / 2) (k0_pay14 x w r lo hi) (k0_pay15 x w r lo hi) := by
  intro e
  obtain ⟨a, h0, h1, hb⟩ := h e
  have hb2 := halve_bracket _ (fun p q hpq hq => (below_mono _ _ hpq).trans hq) hb
  obtain ⟨_, g2, g3, _, _⟩ := hb
  have hm := mid_apply lo hi e (g2.trans g3) g3 h0 h1
  have hf := fits_apply pk x w ha rk r hr lo hi e (by omega) hm
  have hl := low_apply x w r lo hi e
  have hh := high_apply x w r lo hi e
  rw [hf, hm, h0] at hl
  rw [hf, hm, h1] at hh
  by_cases hc : below (fun t => pk t = e) (rk e) ((a.1 + a.2 + 1) / 2) ≤ 128
  · rw [if_pos hc] at hl hh
    rw [halve, if_pos hc] at hb2
    exact Exists.intro ((a.1 + a.2 + 1) / 2, a.2) ⟨hl.trans (if_pos rfl), hh.trans (if_pos rfl), hb2⟩
  · rw [if_neg hc] at hl hh
    rw [halve, if_neg hc] at hb2
    refine Exists.intro (a.1, (a.1 + a.2 + 1) / 2 - 1) ⟨hl.trans (if_neg (by decide)), (hh.trans (if_neg (by decide))).trans ?_, hb2⟩
    show BitVec.ofNat 32 ((a.1 + a.2 + 1) / 2) - BitVec.ofNat 32 1 = _
    rcases Nat.eq_zero_or_pos ((a.1 + a.2 + 1) / 2) with hz | hz
    · exact absurd (by rw [hz]; simp [below]) hc
    · obtain ⟨q, hq⟩ : ∃ q, (a.1 + a.2 + 1) / 2 = q + 1 := ⟨(a.1 + a.2 + 1) / 2 - 1, by omega⟩
      rw [hq, BitVec.ofNat_add, BitVec.add_sub_cancel]
      rfl

/-- Many steps of the search. -/
theorem inv_steps {ι : Type} (l : List ι) : ∀ {wd : ℕ} {st : IVec S1x64 32 × IVec S1x64 32}, Inv pk rk wd st.1 st.2 →
    Inv pk rk (wd / 2 ^ l.length) (l.foldl (fun a _ => (k0_pay14 x w r a.1 a.2, k0_pay15 x w r a.1 a.2)) st).1
      (l.foldl (fun a _ => (k0_pay14 x w r a.1 a.2, k0_pay15 x w r a.1 a.2)) st).2 := by
  induction l with
  | nil => intro wd st h; simpa using h
  | cons i l ih =>
    intro wd st h
    have h1 : Inv pk rk (wd / 2) (k0_pay14 x w r st.1 st.2, k0_pay15 x w r st.1 st.2).1
        (k0_pay14 x w r st.1 st.2, k0_pay15 x w r st.1 st.2).2 := by
      dsimp only
      exact inv_step pk x w ha rk r hr h
    have h2 := ih (wd := wd / 2) (st := (k0_pay14 x w r st.1 st.2, k0_pay15 x w r st.1 st.2)) h1
    have hw : wd / 2 / 2 ^ l.length = wd / 2 ^ (i :: l).length := by
      rw [Nat.div_div_eq_div_mul, ← pow_succ', List.length_cons]
    rw [hw] at h2
    rw [List.foldl_cons]
    beta_reduce
    exact h2

omit ha hr in
/-- The whole range is a bracket. -/
theorem bracket_start (G : ℕ → Prop) (N : ℕ) (h : G 0) : Bracket G N N (0, N) :=
  ⟨h, Nat.zero_le _, le_refl _, fun _ hm _ => hm, Nat.sub_le _ _⟩

omit ha hr in
/-- The search starts with a bracket. -/
theorem inv_start : Inv pk rk 8192 k0_pay10 k0_pay11 := by
  intro e
  have h0 : k0_pay10 (ix2 0 e) = BitVec.ofNat 32 0 := by pointwise [k0_pay10]
  have h1 : k0_pay11 (ix2 0 e) = BitVec.ofNat 32 8192 := by pointwise [k0_pay11]
  have hb := bracket_start (fun m => below (fun t => pk t = e) (rk e) m ≤ 128) 8192 (by simp [below])
  exact Exists.intro (0, 8192) ⟨h0, h1, hb⟩

variable (x' : Fin 64 → Fin 8192 → ℝ) (hrk : ∀ e, Function.Bijective (rk e)) (hord : ∀ e t s, rk e t < rk e s ↔ Before (x' e) t s)

include hrk hord

open scoped Classical in
/-- What fourteen steps of the search end with keeps the tokens of the right places. -/
theorem kept_lane {ι : Type} (l : List ι) (hl : l.length = 14) (s : Fin 8192) (e : Fin 64) :
    k0_pay16 x w r (l.foldl (fun a _ => (k0_pay14 x w r a.1 a.2, k0_pay15 x w r a.1 a.2)) (k0_pay10, k0_pay11)).1 (ix2 s e)
      = if Kept (fun t => pk t = e) (x' e) 128 s then 1#1 else 0#1 := by
  have hi := inv_steps pk x w ha rk r hr l (st := (k0_pay10, k0_pay11)) (inv_start pk rk)
  rw [hl] at hi
  generalize (l.foldl (fun a _ => (k0_pay14 x w r a.1 a.2, k0_pay15 x w r a.1 a.2)) (k0_pay10, k0_pay11)).1 = lo at hi ⊢
  obtain ⟨a, h0, _, g1, g2, g3, g4, g5⟩ := hi e
  have hv : k0_pay16 x w r lo (ix2 s e)
      = IntOp.andi (k0_pay7 x w (ix2 s e)) (IntOp.cmpi CmpIPredicate.slt (r (ix2 s e)) (lo (ix2 0 e))) := by
    pointwise [k0_pay16, k0_pay9]
  rw [hv, lane_apply pk x w ha rk r hr s e (g2.trans g3) h0]
  norm_num at g5
  have hk := below_iff (fun t => pk t = e) (x' e) (rk e) (hrk e).1 (hord e) 128 a.1 g1
    (fun m hm hb => (g4 m hm hb).trans (Nat.le_of_sub_eq_zero g5)) s
  by_cases hh : Kept (fun t => pk t = e) (x' e) 128 s
  · rw [if_pos hh, if_pos (hk.2 hh)]
  · rw [if_neg hh, if_neg fun h => hh (hk.1 h)]

omit ha hr hrk hord in
open scoped Classical in
/-- Whether a token is kept. -/
theorem sel_apply (K : Fin 64 → Fin 8192 → Prop) (hK : ∀ e s, K e s → pk s = e) (m : IVec S8192x64 1)
    (hm : ∀ s e, m (ix2 s e) = if K e s then 1#1 else 0#1) (s : Fin 8192) :
    k0_pay70 m (ix2 s 0) = if K (pk s) s then 1#32 else 0#32 := by
  have h : k0_pay70 m (ix2 s 0) = Finset.fold IntOp.addi (0#32) (fun e : Fin 64 => if K e s then 1#32 else 0#32) Finset.univ := by
    pointwise [k0_pay70]
    refine Finset.fold_congr fun e _ => ?_
    rw [hm]
    split <;> rfl
  rw [h, Tok.fold_addi]
  by_cases hk : K (pk s) s
  · rw [if_pos hk, show (Finset.univ.filter fun e => K e s) = {pk s} from ?_]
    · rfl
    · ext e
      simp only [Finset.mem_filter, Finset.mem_univ, true_and, Finset.mem_singleton]
      exact ⟨fun h => (hK e s h).symm, fun h => h ▸ hk⟩
  · rw [if_neg hk, show (Finset.univ.filter fun e => K e s) = ∅ from ?_]
    · rfl
    · ext e
      simp only [Finset.mem_filter, Finset.mem_univ, true_and, Finset.notMem_empty, iff_false]
      exact fun h => hk (by rw [hK e s h]; exact h)

end Cert.Proof.KSel

end
-- ==== Proof.Mant.lean ====
/- The noise's fraction as a number: twenty rounds of adding, turning and mixing two 32-bit words. -/
module

public import Mathlib.Data.Nat.Notation

@[expose] public section

namespace Cert.Proof.Mant

/-- A 32-bit word turned left by `r` places. -/
def rot (r x : ℕ) : ℕ := Nat.lor (Nat.mod (Nat.shiftLeft x r) 4294967296) (Nat.shiftRight x (Nat.sub 32 r))

/-- One round, and then `k` of the two words. -/
def rnd (r : ℕ) (k : ℕ → ℕ → ℕ) (x0 x1 : ℕ) : ℕ :=
  (fun y0 => k y0 (Nat.xor y0 (rot r x1))) (Nat.mod (Nat.add x0 x1) 4294967296)

/-- The words of the key added in, and then `k`. -/
def inj (a b : ℕ) (k : ℕ → ℕ → ℕ) (x0 x1 : ℕ) : ℕ := k (Nat.mod (Nat.add x0 a) 4294967296) (Nat.mod (Nat.add x1 b) 4294967296)

/-- The first four rounds, and then `k`. -/
def ra (k : ℕ → ℕ → ℕ) : ℕ → ℕ → ℕ := rnd 13 (rnd 15 (rnd 26 (rnd 6 k)))
/-- The second four rounds, and then `k`. -/
def rb (k : ℕ → ℕ → ℕ) : ℕ → ℕ → ℕ := rnd 17 (rnd 29 (rnd 16 (rnd 24 k)))

/-- The upper 23 bits of the two words mixed. -/
def fin (x0 x1 : ℕ) : ℕ := Nat.shiftRight (Nat.xor x0 x1) 9

/-- The fraction of the entry numbered `n`. -/
def mant (n : ℕ) : ℕ :=
  ra (inj 1 466688988 (rb (inj 466688987 2 (ra (inj 0 4 (rb (inj 1 466688991 (ra (inj 466688987 5 fin))))))))) 0 (Nat.add n 1)

/-- Whether `f` holds of the 2 ^ d numbers from `s` on. -/
def allR (f : ℕ → Bool) (d : ℕ) : ℕ → Bool :=
  Nat.rec f (fun d ih s => and (ih s) (ih (Nat.add s (Nat.pow 2 d)))) d

/-- What `allR` finds true holds of each of the numbers. -/
theorem of_allR (f : ℕ → Bool) (d : ℕ) : ∀ s, allR f d s = true → ∀ n, s ≤ n → n < s + 2 ^ d → f n = true := by
  induction d with
  | zero =>
    intro s h n h1 h2
    have : n = s := by simp at h2; omega
    exact this ▸ h
  | succ d ih =>
    intro s h n h1 h2
    have h : (allR f d s && allR f d (s + 2 ^ d)) = true := h
    rw [Bool.and_eq_true] at h
    rw [Nat.pow_succ] at h2
    by_cases h3 : n < s + 2 ^ d
    · exact ih s h.1 n h1 h3
    · exact ih _ h.2 n (by omega) (by omega)

/-- Whether the entry's fraction is not zero. -/
def pos (n : ℕ) : Bool := Nat.blt 0 (mant n)

end Cert.Proof.Mant
-- ==== Proof.Round.lean ====
/- The rounds of the noise's generator: what the operations of one leave, read as numbers. -/
module

public import proofs.«01_k».proof.Proof.Ssa
public import proofs.«01_k».proof.Proof.Mant
public import Idealize.ShloMosaic.PureOps

@[expose] public section

noncomputable section

namespace Cert.Proof

open Idealize.ShloMosaic Idealize.ShloMosaic.StableHlo

namespace Ssa

variable {τ : Topo} {sig : RefSig} {Val : EltTy → Type}
variable {ops : List (HloOp τ sig Val)} (S : Ssa ops) (V : Valuation τ sig Val)

include S in
/-- The operation at a position writes the buffer numbered so. -/
theorem idx {k : ℕ} {op : HloOp τ sig Val} {rest : List (HloOp τ sig Val)} {y : Ref sig .tc}
    (hseg : ops.drop k = op :: rest) (hy : op.writes = {Proc.devRef (τ := τ) .tc y}) : y.idx.val = S.base + k := by
  have h1 : (ops.map HloOp.writes).drop k = op.writes :: rest.map HloOp.writes := by
    rw [← List.map_drop, hseg, List.map_cons]
  rw [S.hW, ← List.map_drop] at h1
  have hk : k < S.W.length := by
    by_contra h
    rw [List.drop_eq_nil_of_le (by omega)] at h1
    simp at h1
  rw [List.drop_eq_getElem_cons hk, List.map_cons] at h1
  have h2 := (List.cons.inj h1).1
  rw [hy, Finset.singleton_inj] at h2
  rw [← Proc.devRef_injective _ h2]
  exact S.hs k hk

/-- The line from the next position on. -/
theorem tail {k : ℕ} {op : HloOp τ sig Val} {rest : List (HloOp τ sig Val)} (hseg : ops.drop k = op :: rest) :
    ops.drop (k + 1) = rest := by
  rw [← List.drop_drop, hseg]; rfl

include S

/-- The end value of the constant at a position. -/
theorem pnul (k : ℕ) {y : Ref sig .tc} {v : y.ty.Contents Val} {hy} {rest : List (HloOp τ sig Val)}
    (hseg : ops.drop k = nullary (τ := τ) y v hy :: rest) : after ops V (Proc.devRef .tc y) = v :=
  have h := S.idx hseg rfl
  S.nul V y (by rw [show y.idx.val - S.base = k by omega]; exact hseg) (by omega)

/-- The end value of the one-operand operation at a position. -/
theorem pun (k : ℕ) {x y : Ref sig .tc} {f : x.ty.Contents Val → y.ty.Contents Val} {hx hy}
    {rest : List (HloOp τ sig Val)} (hseg : ops.drop k = unary (τ := τ) x y f hx hy :: rest)
    (h₁ : x.idx.val < S.base + k) :
    after ops V (Proc.devRef .tc y) = f (after ops V (Proc.devRef .tc x)) :=
  have h := S.idx hseg rfl
  S.un V x y (by rw [show y.idx.val - S.base = k by omega]; exact hseg) (by omega) (by omega)

/-- The end value of the two-operand operation at a position. -/
theorem pbin (k : ℕ) {a b y : Ref sig .tc} {f : a.ty.Contents Val → b.ty.Contents Val → y.ty.Contents Val} {ha hb hy}
    {rest : List (HloOp τ sig Val)} (hseg : ops.drop k = binary (τ := τ) a b y f ha hb hy :: rest)
    (h₁ : a.idx.val < S.base + k) (h₂ : b.idx.val < S.base + k) :
    after ops V (Proc.devRef .tc y) = f (after ops V (Proc.devRef .tc a)) (after ops V (Proc.devRef .tc b)) :=
  have h := S.idx hseg rfl
  S.bin V a b y (by rw [show y.idx.val - S.base = k by omega]; exact hseg) (by omega) (by omega) (by omega)

/-- A round: the sum, and the second word turned; the mixing follows. -/
theorem turn (k : ℕ) {x0 x1 y0 c1 b1 s1 c2 b2 s2 o : Ref sig .tc}
    {fa : x0.ty.Contents Val → x1.ty.Contents Val → y0.ty.Contents Val} {v1 : c1.ty.Contents Val}
    {g1 : c1.ty.Contents Val → b1.ty.Contents Val} {fl : x1.ty.Contents Val → b1.ty.Contents Val → s1.ty.Contents Val}
    {v2 : c2.ty.Contents Val} {g2 : c2.ty.Contents Val → b2.ty.Contents Val}
    {fr : x1.ty.Contents Val → b2.ty.Contents Val → s2.ty.Contents Val}
    {fo : s1.ty.Contents Val → s2.ty.Contents Val → o.ty.Contents Val}
    {p1 p2 p3 p4 p5 p6 p7 p8 p9 p10 p11 p12 p13 p14 p15 p16 p17 p18} {rest : List (HloOp τ sig Val)}
    (hseg : ops.drop k = binary (τ := τ) x0 x1 y0 fa p1 p2 p3 :: nullary c1 v1 p4 :: unary c1 b1 g1 p5 p6
      :: binary x1 b1 s1 fl p7 p8 p9 :: nullary c2 v2 p10 :: unary c2 b2 g2 p11 p12 :: binary x1 b2 s2 fr p13 p14 p15
      :: binary s1 s2 o fo p16 p17 p18 :: rest)
    (h0 : x0.idx.val < S.base + k) (h1 : x1.idx.val < S.base + k) :
    after ops V (Proc.devRef .tc y0) = fa (after ops V (Proc.devRef .tc x0)) (after ops V (Proc.devRef .tc x1))
      ∧ after ops V (Proc.devRef .tc o)
        = fo (fl (after ops V (Proc.devRef .tc x1)) (g1 v1)) (fr (after ops V (Proc.devRef .tc x1)) (g2 v2)) := by
  have t1 := tail hseg
  have t2 := tail t1
  have t3 := tail t2
  have t4 := tail t3
  have t5 := tail t4
  have t6 := tail t5
  have t7 := tail t6
  have i1 := S.idx t1 rfl
  have i2 := S.idx t2 rfl
  have i3 := S.idx t3 rfl
  have i4 := S.idx t4 rfl
  have i5 := S.idx t5 rfl
  have i6 := S.idx t6 rfl
  refine ⟨S.pbin V _ hseg h0 h1, ?_⟩
  rw [S.pbin V _ t7 (by omega) (by omega), S.pbin V _ t6 (by omega) (by omega), S.pun V _ t5 (by omega), S.pnul V _ t4,
    S.pbin V _ t3 (by omega) (by omega), S.pun V _ t2 (by omega), S.pnul V _ t1]

/-- A word of the key added in. -/
theorem plus (k : ℕ) {x y c b : Ref sig .tc} {v : c.ty.Contents Val} {g : c.ty.Contents Val → b.ty.Contents Val}
    {f : x.ty.Contents Val → b.ty.Contents Val → y.ty.Contents Val} {p1 p2 p3 p4 p5 p6} {rest : List (HloOp τ sig Val)}
    (hseg : ops.drop k = nullary (τ := τ) c v p1 :: unary c b g p2 p3 :: binary x b y f p4 p5 p6 :: rest)
    (h : x.idx.val < S.base + k) :
    after ops V (Proc.devRef .tc y) = f (after ops V (Proc.devRef .tc x)) (g v) := by
  have t1 := tail hseg
  have t2 := tail t1
  have i1 := S.idx hseg rfl
  have i2 := S.idx t1 rfl
  rw [S.pbin V _ t2 (by omega) (by omega), S.pun V _ t1 (by omega), S.pnul V _ hseg]

end Ssa

namespace Mant

/-- Turning a word by `r` places, on the machine's words. -/
theorem rot_toNat (r : ℕ) (hr : 0 < r ∧ r < 32) (b : BitVec 32) :
    (IntOp.ori (IntOp.shli .host b (BitVec.ofNat 32 r)) (IntOp.shrui .host b (BitVec.ofNat 32 (32 - r)))).toNat = rot r b.toNat := by
  have h1 : (BitVec.ofNat 32 r).toNat = r := by rw [BitVec.toNat_ofNat]; omega
  have h2 : (BitVec.ofNat 32 (32 - r)).toNat = 32 - r := by rw [BitVec.toNat_ofNat]; omega
  unfold IntOp.ori IntOp.shli IntOp.shrui
  rw [if_pos (by omega), if_pos (by omega)]
  simp only [BitVec.shiftLeft_eq', BitVec.ushiftRight_eq', h1, h2, BitVec.toNat_or, BitVec.toNat_shiftLeft, BitVec.toNat_ushiftRight]
  rfl

/-- A round, read backwards: what follows it at its results is the round and what follows at its operands. -/
theorem rnd_back {R : ℕ} (r : ℕ) (hr : 0 < r ∧ r < 32) (k : ℕ → ℕ → ℕ) {a b c d : BitVec 32} (h0 : c = IntOp.addi a b)
    (h1 : d = IntOp.xori c (IntOp.ori (IntOp.shli .host b (BitVec.ofNat 32 r)) (IntOp.shrui .host b (BitVec.ofNat 32 (32 - r)))))
    (h : k c.toNat d.toNat = R) : rnd r k a.toNat b.toNat = R := by
  rw [← h]
  have e0 : c.toNat = Nat.mod (Nat.add a.toNat b.toNat) 4294967296 := by rw [h0]; exact BitVec.toNat_add a b
  have e1 : d.toNat = Nat.xor c.toNat (rot r b.toNat) := by
    rw [h1, ← rot_toNat r hr b]; exact BitVec.toNat_xor _ _
  rw [e1, e0]
  rfl

/-- Adding the key's words, read backwards. -/
theorem inj_back {R : ℕ} (p q : ℕ) (hp : p < 4294967296) (hq : q < 4294967296) (k : ℕ → ℕ → ℕ) {a b c d : BitVec 32}
    (h0 : c = IntOp.addi a (BitVec.ofNat 32 p)) (h1 : d = IntOp.addi b (BitVec.ofNat 32 q)) (h : k c.toNat d.toNat = R) :
    inj p q k a.toNat b.toNat = R := by
  rw [← h]
  have e0 : c.toNat = Nat.mod (Nat.add a.toNat p) 4294967296 := by
    rw [h0]; exact (BitVec.toNat_add a _).trans (by rw [BitVec.toNat_ofNat, Nat.mod_eq_of_lt hp]; rfl)
  have e1 : d.toNat = Nat.mod (Nat.add b.toNat q) 4294967296 := by
    rw [h1]; exact (BitVec.toNat_add b _).trans (by rw [BitVec.toNat_ofNat, Nat.mod_eq_of_lt hq]; rfl)
  rw [e0, e1]
  rfl

/-- The two words mixed and moved down nine places. -/
theorem fin_toNat (a b : BitVec 32) : fin a.toNat b.toNat = (IntOp.shrui .host (IntOp.xori a b) 9#32).toNat := by
  unfold IntOp.shrui
  rw [if_pos (by decide)]
  refine Eq.trans ?_ (BitVec.toNat_ushiftRight _ 9).symm
  rw [show (IntOp.xori a b).toNat = a.toNat ^^^ b.toNat from BitVec.toNat_xor a b]
  rfl

end Mant

end Cert.Proof

end
-- ==== Proof.TRound.lean ====
/- Rounds inside a function that is called: the same readings, at the values' own types. -/
module

public import proofs.«01_k».proof.Proof.Round

@[expose] public section

namespace Cert.Proof.Ssa

open Idealize.ShloMosaic Idealize.ShloMosaic.StableHlo

variable {τ : Topo} {sig : RefSig} {Val : EltTy → Type} {ops : List (HloOp τ sig Val)} (S : Ssa ops)
  (V : Valuation τ sig Val) {Ta Tb Tc Td Te Tf Tg : BufTy}

/-- The end value of a called function's value, at the value's own type. -/
def rd (ops : List (HloOp τ sig Val)) (V : Valuation τ sig Val) (x : TRef sig Ta) : Ta.Contents Val :=
  x.ofBuf (after ops V (Proc.devRef .tc x.ref))

include S

/-- The end value of the constant at a position. -/
theorem tnul (k : ℕ) {y : TRef sig Ta} {v : Ta.Contents Val} {rest : List (HloOp τ sig Val)}
    (hseg : ops.drop k = TRef.nullary y v :: rest) : rd ops V y = v := by
  unfold rd
  rw [S.pnul V k hseg, TRef.ofBuf_toBuf]

/-- The end value of the one-operand operation at a position. -/
theorem tun (k : ℕ) {x : TRef sig Ta} {y : TRef sig Tb} {f : Ta.Contents Val → Tb.Contents Val}
    {rest : List (HloOp τ sig Val)} (hseg : ops.drop k = TRef.unary x y f :: rest) (h₁ : x.ref.idx.val < S.base + k) :
    rd ops V y = f (rd ops V x) := by
  unfold rd
  rw [S.pun V k hseg h₁, TRef.ofBuf_toBuf]

/-- The end value of the two-operand operation at a position. -/
theorem tbin (k : ℕ) {a : TRef sig Ta} {b : TRef sig Tb} {y : TRef sig Tc} {f : Ta.Contents Val → Tb.Contents Val → Tc.Contents Val}
    {rest : List (HloOp τ sig Val)} (hseg : ops.drop k = TRef.binary a b y f :: rest)
    (h₁ : a.ref.idx.val < S.base + k) (h₂ : b.ref.idx.val < S.base + k) :
    rd ops V y = f (rd ops V a) (rd ops V b) := by
  unfold rd
  rw [S.pbin V k hseg h₁ h₂, TRef.ofBuf_toBuf]

/-- A round: the sum, and the turned word. -/
theorem tturn (k : ℕ) {x0 x1 y0 b1 s1 b2 s2 o : TRef sig Ta} {c1 c2 : TRef sig Tb}
    {fa fl fr fo : Ta.Contents Val → Ta.Contents Val → Ta.Contents Val} {v1 v2 : Tb.Contents Val}
    {g1 g2 : Tb.Contents Val → Ta.Contents Val} {rest : List (HloOp τ sig Val)}
    (hseg : ops.drop k = TRef.binary x0 x1 y0 fa :: TRef.nullary c1 v1 :: TRef.unary c1 b1 g1
      :: TRef.binary x1 b1 s1 fl :: TRef.nullary c2 v2 :: TRef.unary c2 b2 g2 :: TRef.binary x1 b2 s2 fr
      :: TRef.binary s1 s2 o fo :: rest)
    (h0 : x0.ref.idx.val < S.base + k) (h1 : x1.ref.idx.val < S.base + k) :
    rd ops V y0 = fa (rd ops V x0) (rd ops V x1)
      ∧ rd ops V o = fo (fl (rd ops V x1) (g1 v1)) (fr (rd ops V x1) (g2 v2)) := by
  have t1 := tail hseg
  have t2 := tail t1
  have t3 := tail t2
  have t4 := tail t3
  have t5 := tail t4
  have t6 := tail t5
  have t7 := tail t6
  have i1 := S.idx t1 rfl
  have i2 := S.idx t2 rfl
  have i3 := S.idx t3 rfl
  have i4 := S.idx t4 rfl
  have i5 := S.idx t5 rfl
  have i6 := S.idx t6 rfl
  refine ⟨S.tbin V _ hseg h0 h1, ?_⟩
  rw [S.tbin V _ t7 (by omega) (by omega), S.tbin V _ t6 (by omega) (by omega), S.tun V _ t5 (by omega), S.tnul V _ t4,
    S.tbin V _ t3 (by omega) (by omega), S.tun V _ t2 (by omega), S.tnul V _ t1]

/-- Two words of the key and a count added in. -/
theorem tinj (k : ℕ) {x0 x1 y0 y1 b1 b2 b3 s : TRef sig Ta} {ka kb c : TRef sig Tb}
    {fa fb fc : Ta.Contents Val → Ta.Contents Val → Ta.Contents Val} {v : Tb.Contents Val}
    {g1 g2 g3 : Tb.Contents Val → Ta.Contents Val} {rest : List (HloOp τ sig Val)}
    (hseg : ops.drop k = TRef.unary ka b1 g1 :: TRef.binary x0 b1 y0 fa :: TRef.unary kb b2 g2
      :: TRef.binary x1 b2 s fb :: TRef.nullary c v :: TRef.unary c b3 g3 :: TRef.binary s b3 y1 fc :: rest)
    (h0 : x0.ref.idx.val < S.base + k) (h1 : x1.ref.idx.val < S.base + k)
    (h2 : ka.ref.idx.val < S.base + k) (h3 : kb.ref.idx.val < S.base + k) :
    rd ops V y0 = fa (rd ops V x0) (g1 (rd ops V ka))
      ∧ rd ops V y1 = fc (fb (rd ops V x1) (g2 (rd ops V kb))) (g3 v) := by
  have t1 := tail hseg
  have t2 := tail t1
  have t3 := tail t2
  have t4 := tail t3
  have t5 := tail t4
  have t6 := tail t5
  have i0 := S.idx hseg rfl
  have i2 := S.idx t2 rfl
  have i3 := S.idx t3 rfl
  have i4 := S.idx t4 rfl
  have i5 := S.idx t5 rfl
  constructor
  · rw [S.tbin V _ t1 (by omega) (by omega), S.tun V _ hseg (by omega)]
  · rw [S.tbin V _ t6 (by omega) (by omega), S.tun V _ t5 (by omega), S.tnul V _ t4, S.tbin V _ t3 (by omega) (by omega),
      S.tun V _ t2 (by omega)]

end Cert.Proof.Ssa
-- ==== Proof.Mant0.lean ====
/- No fraction is zero: an eighth of the entries. -/
module

public import proofs.«01_k».proof.Proof.Mant

@[expose] public section

set_option maxRecDepth 16384

namespace Cert.Proof.Mant

/-- No fraction of this eighth is zero. -/
theorem pos0 : allR pos 16 0 = true := by decide +kernel

end Cert.Proof.Mant
-- ==== Proof.Mant1.lean ====
/- No fraction is zero: an eighth of the entries. -/
module

public import proofs.«01_k».proof.Proof.Mant

@[expose] public section

set_option maxRecDepth 16384

namespace Cert.Proof.Mant

/-- No fraction of this eighth is zero. -/
theorem pos1 : allR pos 16 65536 = true := by decide +kernel

end Cert.Proof.Mant
-- ==== Proof.Mant2.lean ====
/- No fraction is zero: an eighth of the entries. -/
module

public import proofs.«01_k».proof.Proof.Mant

@[expose] public section

set_option maxRecDepth 16384

namespace Cert.Proof.Mant

/-- No fraction of this eighth is zero. -/
theorem pos2 : allR pos 16 131072 = true := by decide +kernel

end Cert.Proof.Mant
-- ==== Proof.Mant3.lean ====
/- No fraction is zero: an eighth of the entries. -/
module

public import proofs.«01_k».proof.Proof.Mant

@[expose] public section

set_option maxRecDepth 16384

namespace Cert.Proof.Mant

/-- No fraction of this eighth is zero. -/
theorem pos3 : allR pos 16 196608 = true := by decide +kernel

end Cert.Proof.Mant
-- ==== Proof.Mant4.lean ====
/- No fraction is zero: an eighth of the entries. -/
module

public import proofs.«01_k».proof.Proof.Mant

@[expose] public section

set_option maxRecDepth 16384

namespace Cert.Proof.Mant

/-- No fraction of this eighth is zero. -/
theorem pos4 : allR pos 16 262144 = true := by decide +kernel

end Cert.Proof.Mant
-- ==== Proof.Mant5.lean ====
/- No fraction is zero: an eighth of the entries. -/
module

public import proofs.«01_k».proof.Proof.Mant

@[expose] public section

set_option maxRecDepth 16384

namespace Cert.Proof.Mant

/-- No fraction of this eighth is zero. -/
theorem pos5 : allR pos 16 327680 = true := by decide +kernel

end Cert.Proof.Mant
-- ==== Proof.Mant6.lean ====
/- No fraction is zero: an eighth of the entries. -/
module

public import proofs.«01_k».proof.Proof.Mant

@[expose] public section

set_option maxRecDepth 16384

namespace Cert.Proof.Mant

/-- No fraction of this eighth is zero. -/
theorem pos6 : allR pos 16 393216 = true := by decide +kernel

end Cert.Proof.Mant
-- ==== Proof.Mant7.lean ====
/- No fraction is zero: an eighth of the entries. -/
module

public import proofs.«01_k».proof.Proof.Mant

@[expose] public section

set_option maxRecDepth 16384

namespace Cert.Proof.Mant

/-- No fraction of this eighth is zero. -/
theorem pos7 : allR pos 16 458752 = true := by decide +kernel

end Cert.Proof.Mant
-- ==== Proof.Noise.lean ====
/- The noise as a real number: a fraction of 23 bits, never zero. -/
module

public import proofs.«01_k».proof.Proof.Round
public import proofs.«01_k».proof.Proof.Mant0
public import proofs.«01_k».proof.Proof.Mant1
public import proofs.«01_k».proof.Proof.Mant2
public import proofs.«01_k».proof.Proof.Mant3
public import proofs.«01_k».proof.Proof.Mant4
public import proofs.«01_k».proof.Proof.Mant5
public import proofs.«01_k».proof.Proof.Mant6
public import proofs.«01_k».proof.Proof.Mant7
public import Idealize.ShloMosaic.PureOps.Ideal
public import Idealize.ShloMosaic.Lib.Pointwise

@[expose] public section

noncomputable section

namespace Cert.Proof.Mant

open Idealize.ShloMosaic

/-- The noise of the entry numbered `n`. -/
def nz (n : ℕ) : ℝ := (mant n : ℝ) / 8388608

/-- No entry's noise is zero. -/
theorem nz_pos (n : ℕ) (hn : n < 524288) : 0 < nz n := by
  have h : ∀ s, allR pos 16 s = true → s ≤ n → n < s + 65536 → pos n = true := fun s h h1 h2 => of_allR pos 16 s h n h1 h2
  have hp : pos n = true := by
    rcases lt_or_ge n 65536 with h0 | h0
    · exact h _ pos0 (by omega) h0
    rcases lt_or_ge n 131072 with h1 | h1
    · exact h _ pos1 h0 h1
    rcases lt_or_ge n 196608 with h2 | h2
    · exact h _ pos2 h1 h2
    rcases lt_or_ge n 262144 with h3 | h3
    · exact h _ pos3 h2 h3
    rcases lt_or_ge n 327680 with h4 | h4
    · exact h _ pos4 h3 h4
    rcases lt_or_ge n 393216 with h5 | h5
    · exact h _ pos5 h4 h5
    rcases lt_or_ge n 458752 with h6 | h6
    · exact h _ pos6 h5 h6
    · exact h _ pos7 h6 hn
  have h2 : 0 < mant n := by
    unfold pos at hp
    rwa [Nat.blt_eq] at hp
  unfold nz
  positivity

/-- A fraction's bits under the exponent of one, less one, are the fraction. -/
theorem frac (z : BitVec 32) : (Ideal.ofBits .f32 (IntOp.ori (IntOp.shrui .host z 9#32) 0x3F800000#32) : EReal)
    - Ideal.ofBits .f32 0x3F800000#32 = (((IntOp.shrui .host z 9#32).toNat : ℝ) / 8388608 : ℝ) := by
  have hb : (IntOp.shrui .host z 9#32).toNat < 8388608 := by
    unfold IntOp.shrui
    rw [if_pos (by decide)]
    refine lt_of_eq_of_lt (BitVec.toNat_ushiftRight _ 9) ?_
    rw [Nat.shiftRight_eq_div_pow]
    have := z.isLt
    omega
  generalize IntOp.shrui .host z 9#32 = b at hb
  have hn : (IntOp.ori b 0x3F800000#32).toNat = 8388608 * 127 + b.toNat := by
    refine (BitVec.toNat_or b _).trans ?_
    rw [Nat.or_comm]
    exact (Nat.two_pow_add_eq_or_of_lt (i := 23) hb 127).symm
  have h1 : (Ideal.ofBits .f32 0x3F800000#32 : EReal) = ((1 : ℝ) : EReal) := by
    simp [Ideal.ofBits, Ideal.ieee]
    rw [← EReal.coe_mul]; norm_num
  have h2 : (Ideal.ofBits .f32 (IntOp.ori b 0x3F800000#32) : EReal) = ((1 + (b.toNat : ℝ) / 8388608 : ℝ) : EReal) := by
    generalize IntOp.ori b 0x3F800000#32 = w at hn
    have e1 : (w.extractLsb' 23 8).toNat = 127 := by
      rw [BitVec.extractLsb'_toNat, hn, Nat.shiftRight_eq_div_pow]; omega
    have e2 : (w.extractLsb' 0 23).toNat = b.toNat := by
      rw [BitVec.extractLsb'_toNat, hn, Nat.shiftRight_eq_div_pow]; omega
    have e3 : (w.extractLsb' (8 + 23) 1 == 1#1) = false := by
      rw [beq_eq_false_iff_ne]
      intro h
      have := congrArg BitVec.toNat h
      rw [BitVec.extractLsb'_toNat, hn, Nat.shiftRight_eq_div_pow] at this
      simp at this
      omega
    show Ideal.ieee 8 23 w = _
    unfold Ideal.ieee
    simp only [e1, e2, e3]
    rw [if_neg (by norm_num), if_neg (by norm_num)]
    congr 1
    norm_num
    ring
  rw [h1, h2, ← EReal.coe_sub]
  congr 1
  ring

end Cert.Proof.Mant

end
-- ==== Proof.RNoise.lean ====
/- The reference's noise: the part of its line that makes it, read entry by entry. -/
module

public import proofs.«01_k».proof.Proof.TRound
public import proofs.«01_k».proof.Proof.RefVal
public import proofs.«01_k».proof.Proof.Noise
public import Idealize.ShloMosaic.Lib.Pointwise
public import Idealize.ShloMosaic.PureOps.Ideal

@[expose] public section

set_option maxRecDepth 16384

noncomputable section

namespace Cert.Proof.RNoise

open Idealize.ShloMosaic Idealize.ShloMosaic.StableHlo Cert.ReferenceIdeal Cert.Proof.Mant Cert.Proof.Ssa
open Cert.Proof.RefRun (ops ssa)
open Cert.ReferenceIdeal.Facts₀ Cert.ReferenceIdeal.Facts

variable (V : Valuation τ sig (Elt Ideal)) (i : S8192x64.Idx)

/-- A round of the line, read backwards at an entry. -/
theorem step {R : ℕ} (r : ℕ) (hr : 0 < r ∧ r < 32) (k : ℕ → ℕ → ℕ) {a b c o d : IVec S8192x64 32}
    (h0 : c = addi a b ∧ o = ori (Host.shli b (fun _ => BitVec.ofNat 32 r)) (Host.shrui b (fun _ => BitVec.ofNat 32 (32 - r))))
    (h1 : d = xori c o) (h : k (c i).toNat (d i).toNat = R) : rnd r k (a i).toNat (b i).toNat = R := by
  refine rnd_back r hr k (congrFun h0.1 i) ?_ h
  rw [h1, h0.2]
  rfl

/-- The key's words of the line added in, read backwards at an entry. -/
theorem stepk {R : ℕ} (p q t : ℕ) (hp : p < 4294967296) (hq : q + t < 4294967296) (k : ℕ → ℕ → ℕ) {a b c e : IVec S8192x64 32}
    {ka kb : IVec S_ 32}
    (h0 : c = addi a (broadcastInDim S8192x64 ![] bcast_S_S8192x64 ka)
      ∧ e = addi (addi b (broadcastInDim S8192x64 ![] bcast_S_S8192x64 kb)) (fun _ => BitVec.ofNat 32 t))
    (ha : ka = fun _ => BitVec.ofNat 32 p) (hb : kb = fun _ => BitVec.ofNat 32 q) (h : k (c i).toNat (e i).toNat = R) :
    inj p (q + t) k (a i).toNat (b i).toNat = R := by
  subst ha hb
  refine inj_back p (q + t) hp hq k (congrFun h0.1 i) ?_ h
  rw [h0.2, BitVec.ofNat_add]
  exact BitVec.add_assoc _ _ _

/-- A word of a key of two words. -/
def word0 (a b : IVec S1 32) : IVec S_ 32 :=
  shapeCast S_ (extractStridedSlice S1 ![0] (concatenate S2 0 [⟨S1, a⟩, ⟨S1, b⟩] concatenates_S1_S1_S2_d0) slices_S2_S1_0) shapeCasts_S1_S_

/-- The other word. -/
def word1 (a b : IVec S1 32) : IVec S_ 32 :=
  shapeCast S_ (extractStridedSlice S1 ![1] (concatenate S2 0 [⟨S1, a⟩, ⟨S1, b⟩] concatenates_S1_S1_S2_d0) slices_S2_S1_1) shapeCasts_S1_S_

/-- The first half of two joined words. -/
theorem word0_apply (a b : IVec S1 32) (i : S_.Idx) : word0 a b i = a (ix1 0) := by
  rw [show i = ix0 from funext fun j => j.elim0]
  pointwise [word0]

/-- The second half of two joined words. -/
theorem word1_apply (a b : IVec S1 32) (i : S_.Idx) : word1 a b i = b (ix1 0) := by
  rw [show i = ix0 from funext fun j => j.elim0]
  pointwise [word1]

/-- The key's upper half is zero. -/
theorem half0 : after ops V (Proc.devRef .tc main_v28) = (fun _ => 0#32 : IVec S1 32) := by
  rw [ssa.pun V 49 rfl (by decide), ssa.pun V 48 rfl (by decide), ssa.pbin V 47 rfl (by decide) (by decide),
    ssa.nul V main_c_8 rfl, ssa.nul V main_c_9 rfl]
  funext i
  show IntOp.shrui .host 1#32 32#32 = 0#32
  decide

/-- The key's lower half is one. -/
theorem half1 : after ops V (Proc.devRef .tc main_v31) = (fun _ => 1#32 : IVec S1 32) := by
  rw [ssa.pun V 53 rfl (by decide), ssa.pun V 52 rfl (by decide), ssa.pbin V 51 rfl (by decide) (by decide),
    ssa.nul V main_c_8 rfl, ssa.nul V main_c_10 rfl]
  funext i
  show IntOp.andi 1#32 4294967295#32 = 1#32
  decide

/-- The key's first word. -/
theorem k0 : rd ops V (.of main_call2_v5) = fun _ => BitVec.ofNat 32 0 := by
  have h : rd ops V (.of main_call2_v5) = word0 (after ops V (Proc.devRef .tc main_v28)) (after ops V (Proc.devRef .tc main_v31)) := by
    refine (ssa.resh V main_call2_v4 main_call2_v5 rfl).trans ?_
    rw [ssa.pun V 61 rfl (by decide), ssa.pbin V 54 rfl (by decide) (by decide)]
    rfl
  funext i
  rw [h, word0_apply, half0]

/-- The key's second word. -/
theorem k1 : rd ops V (.of main_call2_v7) = fun _ => BitVec.ofNat 32 1 := by
  have h : rd ops V (.of main_call2_v7) = word1 (after ops V (Proc.devRef .tc main_v28)) (after ops V (Proc.devRef .tc main_v31)) := by
    refine (ssa.resh V main_call2_v6 main_call2_v7 rfl).trans ?_
    rw [ssa.pun V 63 rfl (by decide), ssa.pbin V 54 rfl (by decide) (by decide)]
    rfl
  funext i
  rw [h, word1_apply, half1]

/-- The key's third word. -/
theorem k2 : rd ops V (.of main_call2_call0_v1) = fun _ => BitVec.ofNat 32 466688987 := by
  refine (ssa.tbin V 81 rfl (by decide) (by decide)).trans ?_
  rw [ssa.tbin V 79 rfl (by decide) (by decide), ssa.tnul V 80 rfl]
  refine Eq.trans (congrArg₂ (fun a b => xori (xori a b) _) (k0 V) (k1 V)) ?_
  funext i
  show IntOp.xori (IntOp.xori 0#32 1#32) 466688986#32 = 466688987#32
  decide

/-- The entry's number. -/
def number : IVec S8192x64 64 :=
  addi (muli (broadcastInDim S8192x64 ![] bcast_S_S8192x64 (constantI S_ 64 64#64)) (iotaInDim S8192x64 64 0))
    (muli (broadcastInDim S8192x64 ![] bcast_S_S8192x64 (constantI S_ 64 1#64)) (iotaInDim S8192x64 64 1))

/-- The number of an entry. -/
theorem number_apply (s : Fin 8192) (e : Fin 64) : number (ix2 s e) = BitVec.ofNat 64 (s.val * 64 + e.val) := by
  have h : number (ix2 s e) = 64#64 * BitVec.ofNat 64 s.val + 1#64 * BitVec.ofNat 64 e.val := by
    pointwise [number]
    rfl
  rw [h]
  apply BitVec.eq_of_toNat_eq
  simp
  omega

/-- The buffer that numbers the entries. -/
theorem a_number : rd ops V (.of main_call2_v14) = number := by
  refine (ssa.tbin V 73 rfl (by decide) (by decide)).trans ?_
  rw [ssa.tbin V 69 rfl (by decide) (by decide), ssa.tun V 68 rfl (by decide), ssa.tnul V 67 rfl, ssa.tnul V 65 rfl,
    ssa.tbin V 72 rfl (by decide) (by decide), ssa.tun V 71 rfl (by decide), ssa.tnul V 70 rfl, ssa.tnul V 66 rfl]
  rfl

set_option maxHeartbeats 8000000 in
/-- The line's last word is the entry's fraction. -/
theorem mant_eq (s : Fin 8192) (e : Fin 64) :
    mant (s.val * 64 + e.val) = (rd ops V (.of main_call2_v22) (ix2 s e) : BitVec 32).toNat := by
  have hx0 : (rd ops V (.of main_call2_call0_v3) (ix2 s e) : BitVec 32).toNat = 0 := by
    rw [ssa.tbin V 83 rfl (by decide) (by decide), ssa.tun V 82 rfl (by decide), ssa.tun V 78 rfl (by decide),
      ssa.tbin V 76 rfl (by decide) (by decide), ssa.tun V 75 rfl (by decide), ssa.tnul V 74 rfl, a_number, show rd ops V main_call2.v5 = _ from k0 V]
    have h : ∀ n : BitVec 64, n.toNat < 524288 → (IntOp.addi (BitVec.setWidth 32 (IntOp.shrui .host n 32#64)) (BitVec.ofNat 32 0)).toNat = 0 := by
      intro n hn
      rw [IntOp.shrui, if_pos (by decide), IntOp.addi, BitVec.toNat_add, BitVec.toNat_setWidth, BitVec.ushiftRight_eq', BitVec.toNat_ushiftRight,
        Nat.shiftRight_eq_div_pow, Nat.div_eq_of_lt (by have : (32#64 : BitVec 64).toNat = 32 := rfl
                                                        rw [this]; omega)]
      rfl
    refine h (number (ix2 s e)) ?_
    rw [number_apply, BitVec.toNat_ofNat]
    omega
  have hx1 : (rd ops V (.of main_call2_call0_v5) (ix2 s e) : BitVec 32).toNat = Nat.add (s.val * 64 + e.val) 1 := by
    rw [ssa.tbin V 85 rfl (by decide) (by decide), ssa.tun V 84 rfl (by decide), ssa.tun V 77 rfl (by decide), a_number, show rd ops V main_call2.v7 = _ from k1 V]
    show (BitVec.setWidth 32 (number (ix2 s e)) + 1#32).toNat = _
    rw [number_apply, BitVec.toNat_add, BitVec.toNat_setWidth, BitVec.toNat_ofNat]
    show _ = s.val * 64 + e.val + 1
    rw [show (1#32).toNat = 1 from rfl]
    omega
  generalize ix2 s e = i at hx0 hx1 ⊢
  unfold mant
  rw [← hx1]
  refine Eq.trans (congrArg (fun z => ra _ z _) hx0.symm) ?_
  refine step i 13 (by decide) _ (ssa.tturn V 86 rfl (by decide) (by decide)) (ssa.tbin V 94 rfl (by decide) (by decide)) ?_
  refine step i 15 (by decide) _ (ssa.tturn V 95 rfl (by decide) (by decide)) (ssa.tbin V 103 rfl (by decide) (by decide)) ?_
  refine step i 26 (by decide) _ (ssa.tturn V 104 rfl (by decide) (by decide)) (ssa.tbin V 112 rfl (by decide) (by decide)) ?_
  refine step i 6 (by decide) _ (ssa.tturn V 113 rfl (by decide) (by decide)) (ssa.tbin V 121 rfl (by decide) (by decide)) ?_
  refine stepk i 1 466688987 1 (by decide) (by decide) _ (ssa.tinj V 122 rfl (by decide) (by decide) (by decide) (by decide)) (k1 V) (k2 V) ?_
  refine step i 17 (by decide) _ (ssa.tturn V 129 rfl (by decide) (by decide)) (ssa.tbin V 137 rfl (by decide) (by decide)) ?_
  refine step i 29 (by decide) _ (ssa.tturn V 138 rfl (by decide) (by decide)) (ssa.tbin V 146 rfl (by decide) (by decide)) ?_
  refine step i 16 (by decide) _ (ssa.tturn V 147 rfl (by decide) (by decide)) (ssa.tbin V 155 rfl (by decide) (by decide)) ?_
  refine step i 24 (by decide) _ (ssa.tturn V 156 rfl (by decide) (by decide)) (ssa.tbin V 164 rfl (by decide) (by decide)) ?_
  refine stepk i 466688987 0 2 (by decide) (by decide) _ (ssa.tinj V 165 rfl (by decide) (by decide) (by decide) (by decide)) (k2 V) (k0 V) ?_
  refine step i 13 (by decide) _ (ssa.tturn V 172 rfl (by decide) (by decide)) (ssa.tbin V 180 rfl (by decide) (by decide)) ?_
  refine step i 15 (by decide) _ (ssa.tturn V 181 rfl (by decide) (by decide)) (ssa.tbin V 189 rfl (by decide) (by decide)) ?_
  refine step i 26 (by decide) _ (ssa.tturn V 190 rfl (by decide) (by decide)) (ssa.tbin V 198 rfl (by decide) (by decide)) ?_
  refine step i 6 (by decide) _ (ssa.tturn V 199 rfl (by decide) (by decide)) (ssa.tbin V 207 rfl (by decide) (by decide)) ?_
  refine stepk i 0 1 3 (by decide) (by decide) _ (ssa.tinj V 208 rfl (by decide) (by decide) (by decide) (by decide)) (k0 V) (k1 V) ?_
  refine step i 17 (by decide) _ (ssa.tturn V 215 rfl (by decide) (by decide)) (ssa.tbin V 223 rfl (by decide) (by decide)) ?_
  refine step i 29 (by decide) _ (ssa.tturn V 224 rfl (by decide) (by decide)) (ssa.tbin V 232 rfl (by decide) (by decide)) ?_
  refine step i 16 (by decide) _ (ssa.tturn V 233 rfl (by decide) (by decide)) (ssa.tbin V 241 rfl (by decide) (by decide)) ?_
  refine step i 24 (by decide) _ (ssa.tturn V 242 rfl (by decide) (by decide)) (ssa.tbin V 250 rfl (by decide) (by decide)) ?_
  refine stepk i 1 466688987 4 (by decide) (by decide) _ (ssa.tinj V 251 rfl (by decide) (by decide) (by decide) (by decide)) (k1 V) (k2 V) ?_
  refine step i 13 (by decide) _ (ssa.tturn V 258 rfl (by decide) (by decide)) (ssa.tbin V 266 rfl (by decide) (by decide)) ?_
  refine step i 15 (by decide) _ (ssa.tturn V 267 rfl (by decide) (by decide)) (ssa.tbin V 275 rfl (by decide) (by decide)) ?_
  refine step i 26 (by decide) _ (ssa.tturn V 276 rfl (by decide) (by decide)) (ssa.tbin V 284 rfl (by decide) (by decide)) ?_
  refine step i 6 (by decide) _ (ssa.tturn V 285 rfl (by decide) (by decide)) (ssa.tbin V 293 rfl (by decide) (by decide)) ?_
  refine stepk i 466688987 0 5 (by decide) (by decide) _ (ssa.tinj V 294 rfl (by decide) (by decide) (by decide) (by decide)) (k2 V) (k0 V) ?_
  rw [ssa.tbin V 304 rfl (by decide) (by decide), ssa.tun V 303 rfl (by decide), ssa.tnul V 302 rfl,
    ssa.tbin V 301 rfl (by decide) (by decide)]
  exact fin_toNat _ _

/-- The noise that two words mixed make. -/
def noiseOf (z : IVec S8192x64 32) : RefRun.Fl S8192x64 :=
  let lo : RefRun.Fl S1x1 := broadcastInDim S1x1 ![] bcast_S_S1x1 (constant (F := Ideal) S_ .f32 0x00000000#32)
  let hi : RefRun.Fl S1x1 := broadcastInDim S1x1 ![] bcast_S_S1x1 (constant (F := Ideal) S_ .f32 0x3F800000#32)
  let f : RefRun.Fl S8192x64 := subf (F := Ideal) (φ := .f32) (bitcastToFloat (F := Ideal) .f32
      (ori (Host.shrui z (broadcastInDim S8192x64 ![] bcast_S_S8192x64 (constantI S_ 32 9#32)))
        (broadcastInDim S8192x64 ![] bcast_S_S8192x64 (constantI S_ 32 1065353216#32))))
    (broadcastInDim S8192x64 ![] bcast_S_S8192x64 (constant (F := Ideal) S_ .f32 0x3F800000#32))
  maximumf (F := Ideal) (φ := .f32) (broadcastInDim S8192x64 ![0, 1] bcast_S1x1_S8192x64_0_1 lo)
    (addf (F := Ideal) (φ := .f32) (mulf (F := Ideal) (φ := .f32) f
        (broadcastInDim S8192x64 ![0, 1] bcast_S1x1_S8192x64_0_1 (subf (F := Ideal) (φ := .f32) hi lo)))
      (broadcastInDim S8192x64 ![0, 1] bcast_S1x1_S8192x64_0_1 lo))

/-- The noise at a token and an expert, from the mixed words. -/
theorem noiseOf_apply (z : IVec S8192x64 32) (s : Fin 8192) (e : Fin 64) :
    (noiseOf z (ix2 s e) : EReal) = max (Ideal.ofBits .f32 0x00000000#32)
      ((Ideal.ofBits .f32 (IntOp.ori (IntOp.shrui .host (z (ix2 s e)) 9#32) 0x3F800000#32) - Ideal.ofBits .f32 0x3F800000#32)
        * (Ideal.ofBits .f32 0x3F800000#32 - Ideal.ofBits .f32 0x00000000#32) + Ideal.ofBits .f32 0x00000000#32) := by
  pointwise [noiseOf]

/-- The noise buffer, from the mixed words. -/
theorem a_noise : after ops V (Proc.devRef .tc main_v33) = noiseOf (rd ops V (.of main_call2_v20)) := by
  refine (ssa.tbin V 318 rfl (by decide) (by decide) : rd ops V (.of main_v33) = _).trans ?_
  rw [ssa.tun V 317 rfl (by decide), ssa.tbin V 316 rfl (by decide) (by decide), ssa.tun V 315 rfl (by decide),
    ssa.tbin V 314 rfl (by decide) (by decide), ssa.tun V 313 rfl (by decide), ssa.tbin V 312 rfl (by decide) (by decide),
    ssa.tbin V 311 rfl (by decide) (by decide), ssa.tun V 310 rfl (by decide), ssa.tnul V 309 rfl, ssa.tun V 308 rfl (by decide),
    ssa.tbin V 307 rfl (by decide) (by decide), ssa.tun V 306 rfl (by decide), ssa.tnul V 305 rfl,
    ssa.tbin V 304 rfl (by decide) (by decide), ssa.tun V 303 rfl (by decide), ssa.tnul V 302 rfl,
    ssa.tun V 59 rfl (by decide), ssa.tun V 60 rfl (by decide), ssa.tun V 57 rfl (by decide), ssa.tun V 58 rfl (by decide)]
  have h0 : rd ops V (.of main_cst_11) = constant (F := Ideal) S_ .f32 0x00000000#32 := ssa.nul V main_cst_11 rfl
  have h1 : rd ops V (.of main_cst_12) = constant (F := Ideal) S_ .f32 0x3F800000#32 := ssa.nul V main_cst_12 rfl
  rw [h0, h1]
  rfl

/-- The noise of a token and an expert. -/
theorem v33_eq (s : Fin 8192) (e : Fin 64) :
    (after ops V (Proc.devRef .tc main_v33) (ix2 s e) : EReal) = ((nz (s.val * 64 + e.val) : ℝ) : EReal) := by
  have hm : mant (s.val * 64 + e.val) = (IntOp.shrui .host (rd ops V (.of main_call2_v20) (ix2 s e)) 9#32 : BitVec 32).toNat := by
    rw [mant_eq V s e, ssa.tbin V 304 rfl (by decide) (by decide), ssa.tun V 303 rfl (by decide), ssa.tnul V 302 rfl]
    rfl
  have h0 : Ideal.ofBits .f32 0x00000000#32 = ((0 : ℝ) : EReal) := by simp [Ideal.ofBits, Ideal.ieee]
  have h1 : Ideal.ofBits .f32 0x3F800000#32 - Ideal.ofBits .f32 0x00000000#32 = ((1 : ℝ) : EReal) := by
    rw [h0]
    simp [Ideal.ofBits, Ideal.ieee]
    rw [← EReal.coe_mul]
    norm_num
  rw [a_noise]
  refine (noiseOf_apply _ s e).trans ?_
  rw [frac, h1, h0, nz, hm, EReal.coe_one, mul_one, EReal.coe_zero, add_zero]
  refine max_eq_right ?_
  exact EReal.coe_nonneg.mpr (by positivity)

end Cert.Proof.RNoise

end
-- ==== Proof.KNoise.lean ====
/- The kernel's noise: the host line that makes it, read entry by entry. -/
module

public import proofs.«01_k».proof.Proof.Round
public import proofs.«01_k».proof.Proof.Gen.KernelIdeal.Frame
public import Idealize.ShloMosaic.PureOps.Ideal

@[expose] public section

set_option maxRecDepth 16384

noncomputable section

namespace Cert.Proof.KNoise

open Idealize.ShloMosaic Idealize.ShloMosaic.StableHlo Cert.KernelIdeal Cert.KernelIdeal.Gen Cert.Proof.Mant

/-- The line's results are numbered in order. -/
noncomputable def ssa : Ssa (hostOps0 (F := Ideal)) where
  W := hostOps0_W
  hW := rfl
  base := 2
  hs := by decide +kernel

variable (V : Valuation τ sig (Elt Ideal)) (i : S524288.Idx)

/-- A round of the line, read backwards at an entry. -/
theorem step {R : ℕ} (r : ℕ) (hr : 0 < r ∧ r < 32) (k : ℕ → ℕ → ℕ) {a b c o d : IVec S524288 32}
    (h0 : c = addi a b ∧ o = ori (Host.shli b (fun _ => BitVec.ofNat 32 r)) (Host.shrui b (fun _ => BitVec.ofNat 32 (32 - r))))
    (h1 : d = xori o c) (h : k (c i).toNat (d i).toNat = R) : rnd r k (a i).toNat (b i).toNat = R := by
  refine rnd_back r hr k (congrFun h0.1 i) ?_ h
  rw [h1, h0.2]
  exact BitVec.xor_comm _ _

/-- The key's words of the line added in, read backwards at an entry. -/
theorem stepk {R : ℕ} (p q t : ℕ) (hp : p < 4294967296) (hq : q + t < 4294967296) (k : ℕ → ℕ → ℕ) {a b c d e : IVec S524288 32}
    (h0 : c = addi a (fun _ => BitVec.ofNat 32 p)) (h1 : d = addi b (fun _ => BitVec.ofNat 32 q))
    (h2 : e = addi d (fun _ => BitVec.ofNat 32 t)) (h : k (c i).toNat (e i).toNat = R) :
    inj p (q + t) k (a i).toNat (b i).toNat = R := by
  refine inj_back p (q + t) hp hq k (congrFun h0 i) ?_ h
  rw [h2, h1, BitVec.ofNat_add]
  exact BitVec.add_assoc _ _ _

set_option maxHeartbeats 8000000 in
/-- The line's last word is the entry's fraction. -/
theorem mant_eq : mant (i 0).val = (after (hostOps0 (F := Ideal)) V (Proc.devRef .tc main_v178) i : BitVec 32).toNat := by
  have hi : (i 0).val < 524288 := (i 0).isLt
  have hx0 : (after (hostOps0 (F := Ideal)) V (Proc.devRef .tc main_v3) i : BitVec 32).toNat = 0 := by
    rw [ssa.plus V 3 rfl (by decide), ssa.pun V 1 rfl (by decide), ssa.pnul V 0 rfl]
    rfl
  have hx1 : (after (hostOps0 (F := Ideal)) V (Proc.devRef .tc main_v5) i : BitVec 32).toNat = Nat.add (i 0).val 1 := by
    rw [ssa.plus V 6 rfl (by decide), ssa.pnul V 2 rfl]
    refine (BitVec.toNat_add _ _).trans ?_
    rw [show (iotaInDim S524288 32 0 i : BitVec 32) = BitVec.ofNat 32 (i 0).val from rfl]
    show ((BitVec.ofNat 32 (i 0).val).toNat + 1) % _ = _
    rw [BitVec.toNat_ofNat]
    show _ = (i 0).val + 1
    omega
  unfold mant
  rw [← hx1]
  refine Eq.trans (congrArg (fun z => ra _ z _) hx0.symm) ?_
  refine step i 13 (by decide) _ (ssa.turn V 9 rfl (by decide) (by decide)) (ssa.pbin V 17 rfl (by decide) (by decide)) ?_
  refine step i 15 (by decide) _ (ssa.turn V 18 rfl (by decide) (by decide)) (ssa.pbin V 26 rfl (by decide) (by decide)) ?_
  refine step i 26 (by decide) _ (ssa.turn V 27 rfl (by decide) (by decide)) (ssa.pbin V 35 rfl (by decide) (by decide)) ?_
  refine step i 6 (by decide) _ (ssa.turn V 36 rfl (by decide) (by decide)) (ssa.pbin V 44 rfl (by decide) (by decide)) ?_
  refine stepk i 1 466688987 1 (by decide) (by decide) _ (ssa.plus V 45 rfl (by decide)) (ssa.plus V 48 rfl (by decide)) (ssa.plus V 51 rfl (by decide)) ?_
  refine step i 17 (by decide) _ (ssa.turn V 54 rfl (by decide) (by decide)) (ssa.pbin V 62 rfl (by decide) (by decide)) ?_
  refine step i 29 (by decide) _ (ssa.turn V 63 rfl (by decide) (by decide)) (ssa.pbin V 71 rfl (by decide) (by decide)) ?_
  refine step i 16 (by decide) _ (ssa.turn V 72 rfl (by decide) (by decide)) (ssa.pbin V 80 rfl (by decide) (by decide)) ?_
  refine step i 24 (by decide) _ (ssa.turn V 81 rfl (by decide) (by decide)) (ssa.pbin V 89 rfl (by decide) (by decide)) ?_
  refine stepk i 466688987 0 2 (by decide) (by decide) _ (ssa.plus V 90 rfl (by decide)) (ssa.plus V 93 rfl (by decide)) (ssa.plus V 96 rfl (by decide)) ?_
  refine step i 13 (by decide) _ (ssa.turn V 99 rfl (by decide) (by decide)) (ssa.pbin V 107 rfl (by decide) (by decide)) ?_
  refine step i 15 (by decide) _ (ssa.turn V 108 rfl (by decide) (by decide)) (ssa.pbin V 116 rfl (by decide) (by decide)) ?_
  refine step i 26 (by decide) _ (ssa.turn V 117 rfl (by decide) (by decide)) (ssa.pbin V 125 rfl (by decide) (by decide)) ?_
  refine step i 6 (by decide) _ (ssa.turn V 126 rfl (by decide) (by decide)) (ssa.pbin V 134 rfl (by decide) (by decide)) ?_
  refine stepk i 0 1 3 (by decide) (by decide) _ (ssa.plus V 135 rfl (by decide)) (ssa.plus V 138 rfl (by decide)) (ssa.plus V 141 rfl (by decide)) ?_
  refine step i 17 (by decide) _ (ssa.turn V 144 rfl (by decide) (by decide)) (ssa.pbin V 152 rfl (by decide) (by decide)) ?_
  refine step i 29 (by decide) _ (ssa.turn V 153 rfl (by decide) (by decide)) (ssa.pbin V 161 rfl (by decide) (by decide)) ?_
  refine step i 16 (by decide) _ (ssa.turn V 162 rfl (by decide) (by decide)) (ssa.pbin V 170 rfl (by decide) (by decide)) ?_
  refine step i 24 (by decide) _ (ssa.turn V 171 rfl (by decide) (by decide)) (ssa.pbin V 179 rfl (by decide) (by decide)) ?_
  refine stepk i 1 466688987 4 (by decide) (by decide) _ (ssa.plus V 180 rfl (by decide)) (ssa.plus V 183 rfl (by decide)) (ssa.plus V 186 rfl (by decide)) ?_
  refine step i 13 (by decide) _ (ssa.turn V 189 rfl (by decide) (by decide)) (ssa.pbin V 197 rfl (by decide) (by decide)) ?_
  refine step i 15 (by decide) _ (ssa.turn V 198 rfl (by decide) (by decide)) (ssa.pbin V 206 rfl (by decide) (by decide)) ?_
  refine step i 26 (by decide) _ (ssa.turn V 207 rfl (by decide) (by decide)) (ssa.pbin V 215 rfl (by decide) (by decide)) ?_
  refine step i 6 (by decide) _ (ssa.turn V 216 rfl (by decide) (by decide)) (ssa.pbin V 224 rfl (by decide) (by decide)) ?_
  refine stepk i 466688987 0 5 (by decide) (by decide) _ (ssa.plus V 225 rfl (by decide)) (ssa.plus V 228 rfl (by decide)) (ssa.plus V 231 rfl (by decide)) ?_
  rw [ssa.pbin V 237 rfl (by decide) (by decide), ssa.pun V 236 rfl (by decide), ssa.pnul V 235 rfl,
    ssa.pbin V 234 rfl (by decide) (by decide)]
  exact fin_toNat _ _

end Cert.Proof.KNoise

end
-- ==== Proof.KRank.lean ====
/- The kernel's rank table: a token's place in the order of falling noise of its expert. -/
module

public import proofs.«01_k».proof.Proof.KNoise
public import proofs.«01_k».proof.Proof.Noise
public import proofs.«01_k».proof.Proof.Sorted
public import Idealize.ShloMosaic.Lib.Routing.OpsSet
public import Idealize.ShloMosaic.Lib.Routing.OpsPair

@[expose] public section

set_option maxRecDepth 16384

noncomputable section

namespace Cert.Proof

open Idealize.ShloMosaic Idealize.ShloMosaic.StableHlo Cert.Proof.Mant Cert.Proof.Sorted

/-- A word below half the range, read signed. -/
theorem toInt_ofNat {k : ℕ} (h : k < 2147483648) : (BitVec.ofNat 32 k).toInt = (k : ℤ) := by
  rw [BitVec.toInt_ofNat']
  simp only [Int.bmod_def]
  omega

/-- Writing entries of a table column by column: an entry that an update names holds the update. -/
theorem scatter_lands {A R C : ℕ} (d : ScatterDims (⟨2, ![R, C]⟩ : Shape) (⟨3, ![A, C, 2]⟩ : Shape) (⟨2, ![A, C]⟩ : Shape))
    (hiw : d.insertedWindowDims = [0, 1]) (hsd : d.scatterDimsToOperandDims = [0, 1]) (hivd : d.indexVectorDim = 2)
    (idx : IVec (⟨3, ![A, C, 2]⟩ : Shape) 32)
    (f : Fin A → Fin C → Fin R) (h0 : ∀ p e, (idx (ix3 p e 0)).toInt = (f p e).val) (h1 : ∀ p e, (idx (ix3 p e 1)).toInt = e.val)
    (a : Fin A) (b : Fin C) (s : Fin R) (e : Fin C) : d.resultIdx? (ix2 a b) idx = some (ix2 s e) ↔ f a b = s ∧ b = e := by
  have h := Routing.scatter_lands2 d hiw hsd hivd idx a b s e
  rw [← ix2_eq_valueIdx, ← ix2_eq_valueIdx, ← ix3_eq_valueIdx, ← ix3_eq_valueIdx, h0, h1] at h
  rw [h, Fin.ext_iff, Fin.ext_iff]
  omega

/-- An entry that an update names holds the update. -/
theorem scatter_hit {α : Type} {A R C : ℕ} (d : ScatterDims (⟨2, ![R, C]⟩ : Shape) (⟨3, ![A, C, 2]⟩ : Shape) (⟨2, ![A, C]⟩ : Shape))
    (hiw : d.insertedWindowDims = [0, 1]) (hsd : d.scatterDimsToOperandDims = [0, 1]) (hivd : d.indexVectorDim = 2)
    (x0 : (⟨2, ![R, C]⟩ : Shape).Idx → α) (idx : IVec (⟨3, ![A, C, 2]⟩ : Shape) 32) (upd : (⟨2, ![A, C]⟩ : Shape).Idx → α)
    (f : Fin A → Fin C → Fin R) (h0 : ∀ p e, (idx (ix3 p e 0)).toInt = (f p e).val) (h1 : ∀ p e, (idx (ix3 p e 1)).toInt = e.val)
    (e : Fin C) (s : Fin R) (v : α) (hv : ∀ p, f p e = s → upd (ix2 p e) = v) (p : Fin A) (hp : f p e = s) :
    Host.scatter d (fun _ b => b) x0 idx upd (ix2 s e) = v := by
  refine Routing.scatter_set_hit d x0 idx upd _ v (fun k hk => ?_) (ix2 p e)
    ((scatter_lands d hiw hsd hivd idx f h0 h1 p e s e).2 ⟨hp, rfl⟩)
  obtain ⟨a, b, rfl⟩ : ∃ a b, k = ix2 a b := ⟨k 0, k 1, eq_ix2 k⟩
  obtain ⟨h2, h3⟩ := (scatter_lands d hiw hsd hivd idx f h0 h1 a b s e).1 hk
  subst h3
  exact hv _ h2

/-- An entry that no update names keeps what it held. -/
theorem scatter_miss {α : Type} {A R C : ℕ} (d : ScatterDims (⟨2, ![R, C]⟩ : Shape) (⟨3, ![A, C, 2]⟩ : Shape) (⟨2, ![A, C]⟩ : Shape))
    (hiw : d.insertedWindowDims = [0, 1]) (hsd : d.scatterDimsToOperandDims = [0, 1]) (hivd : d.indexVectorDim = 2)
    (x0 : (⟨2, ![R, C]⟩ : Shape).Idx → α) (idx : IVec (⟨3, ![A, C, 2]⟩ : Shape) 32) (upd : (⟨2, ![A, C]⟩ : Shape).Idx → α)
    (f : Fin A → Fin C → Fin R) (h0 : ∀ p e, (idx (ix3 p e 0)).toInt = (f p e).val) (h1 : ∀ p e, (idx (ix3 p e 1)).toInt = e.val)
    (e : Fin C) (s : Fin R) (hn : ∀ p, f p e ≠ s) :
    Host.scatter d (fun _ b => b) x0 idx upd (ix2 s e) = x0 (ix2 s e) := by
  refine Routing.scatter_set_miss d x0 idx upd _ fun k hk => ?_
  obtain ⟨a, b, rfl⟩ : ∃ a b, k = ix2 a b := ⟨k 0, k 1, eq_ix2 k⟩
  obtain ⟨h2, h3⟩ := (scatter_lands d hiw hsd hivd idx f h0 h1 a b s e).1 hk
  subst h3
  exact hn _ h2

/-- A sort of pairs along the first axis, the second component being the positions: the sorted positions. -/
theorem sort2_ix2 {α : Type} {R C : ℕ} (cmp : α × BitVec 32 → α × BitVec 32 → BitVec 1) (x : (⟨2, ![R, C]⟩ : Shape).Idx → α)
    (y : (⟨2, ![R, C]⟩ : Shape).Idx → BitVec 32) (p : Fin R) (e : Fin C) :
    (Host.sort2 (⟨2, ![R, C]⟩ : Shape) 0 cmp x y).2 (ix2 p e)
      = y (ix2 (sortedFrom (fun k k' => cmp (x (ix2 k e), y (ix2 k e)) (x (ix2 k' e), y (ix2 k' e)) == 1#1) p) e) := by
  have ha : ∀ k : Fin R, (ix2 p e : (⟨2, ![R, C]⟩ : Shape).Idx).along 0 k = ix2 k e := by
    intro k
    funext a
    match a with
    | ⟨0, _⟩ => rfl
    | ⟨1, _⟩ => rfl
  have hf : (fun k : Fin R => (ix2 p e : (⟨2, ![R, C]⟩ : Shape).Idx).along 0 k) = fun k => ix2 k e := funext ha
  exact congrArg (fun g : Fin R → (⟨2, ![R, C]⟩ : Shape).Idx =>
    y (g (sortedFrom (fun k k' => cmp (x (g k), y (g k)) (x (g k'), y (g k')) == 1#1) p))) hf

/-- The sort's comparison of two real keys. -/
theorem comparator_real (a b : ℝ) (u v : BitVec 32) :
    (Cert.KernelIdeal.comparator_f32_i32_d0 (F := Ideal) (((a : ℝ) : EReal), u) (((b : ℝ) : EReal), v) == 1#1) = decide (a < b) := by
  have h0 : (Ideal.ofBits .f32 0x00000000#32 : EReal) = ((0 : ℝ) : EReal) := by simp [Ideal.ofBits, Ideal.ieee]
  have hs : ∀ a : ℝ, Scalar.select (FloatOps.cmpf (F := Ideal) (φ := .f32) .une ((a : ℝ) : EReal) ((a : ℝ) : EReal))
      (FloatOps.ofBits (F := Ideal) .f32 0x7FC00000#32)
      (Scalar.select (FloatOps.cmpf (F := Ideal) (φ := .f32) .oeq ((a : ℝ) : EReal) (FloatOps.ofBits (F := Ideal) .f32 0x00000000#32))
        (FloatOps.ofBits (F := Ideal) .f32 0x00000000#32) ((a : ℝ) : EReal)) = ((a : ℝ) : EReal) := by
    intro a
    show Scalar.select (Ideal.cmp .une ((a : ℝ) : EReal) ((a : ℝ) : EReal)) _
      (Scalar.select (Ideal.cmp .oeq ((a : ℝ) : EReal) (Ideal.ofBits .f32 0x00000000#32)) (Ideal.ofBits .f32 0x00000000#32) ((a : ℝ) : EReal)) = _
    rw [h0]
    by_cases h : a = 0
    · subst h
      simp [Ideal.cmp, Scalar.select]
    · simp [Ideal.cmp, Scalar.select, h]
  have h : Cert.KernelIdeal.comparator_f32_i32_d0 (F := Ideal) (((a : ℝ) : EReal), u) (((b : ℝ) : EReal), v)
      = Ideal.cmp .olt ((a : ℝ) : EReal) ((b : ℝ) : EReal) := by
    unfold Cert.KernelIdeal.comparator_f32_i32_d0
    dsimp only
    rw [hs a, hs b]
    rfl
  rw [h]
  by_cases hab : a < b <;> simp [Ideal.cmp, hab]

namespace KNoise

open Cert.KernelIdeal Cert.KernelIdeal.Gen

variable (V : Valuation τ sig (Elt Ideal))

/-- The negated noise from the generator's mixed words. -/
def noiseOf (z : IVec S524288 32) : FVec Ideal S8192x64 .f32 :=
  Host.negf (F := Ideal) (shapeCast S8192x64 (subf (F := Ideal) (bitcastToFloat (F := Ideal) .f32
    (ori (Host.shrui z (broadcastInDim S524288 ![] bcast_S_S524288 (constantI S_ 32 9#32)))
      (broadcastInDim S524288 ![] bcast_S_S524288 (constantI S_ 32 1065353216#32))))
    (broadcastInDim S524288 ![] bcast_S_S524288 (constant (F := Ideal) S_ .f32 0x3F800000#32))) shapeCasts_S524288_S8192x64)

/-- The noise at a token and an expert, from the mixed words. -/
theorem noiseOf_apply (z : IVec S524288 32) (s : Fin 8192) (e : Fin 64) (h : s.val * 64 + e.val < 524288) :
    (noiseOf z (ix2 s e) : EReal)
      = -((Ideal.ofBits .f32 (IntOp.ori (IntOp.shrui .host (z (ix1 ⟨s.val * 64 + e.val, h⟩)) 9#32) 0x3F800000#32) : EReal)
        - Ideal.ofBits .f32 0x3F800000#32) := by
  pointwise [noiseOf]

/-- The noise buffer, from the mixed words. -/
theorem a_noise : after (hostOps0 (F := Ideal)) V (Proc.devRef .tc main_v185)
    = noiseOf (after (hostOps0 (F := Ideal)) V (Proc.devRef .tc main_v176)) := by
  rw [ssa.pun V 246 rfl (by decide), ssa.resh V main_v183 main_v184 rfl, ssa.pbin V 244 rfl (by decide) (by decide),
    ssa.pun V 243 rfl (by decide), ssa.pnul V 242 rfl, ssa.pun V 241 rfl (by decide), ssa.pbin V 240 rfl (by decide) (by decide),
    ssa.pun V 239 rfl (by decide), ssa.pnul V 238 rfl, ssa.pbin V 237 rfl (by decide) (by decide), ssa.pun V 236 rfl (by decide),
    ssa.pnul V 235 rfl]
  rfl

/-- The fraction is the mixed word without its lowest nine bits. -/
theorem mant_of (n : ℕ) (i : S524288.Idx) (h : (i 0).val = n) :
    mant n = (IntOp.shrui .host (after (hostOps0 (F := Ideal)) V (Proc.devRef .tc main_v176) i) 9#32 : BitVec 32).toNat := by
  rw [← h, mant_eq V i, ssa.pbin V 237 rfl (by decide) (by decide), ssa.pun V 236 rfl (by decide), ssa.pnul V 235 rfl]
  rfl

/-- The negated noise of a token and an expert. -/
theorem v185_eq (s : Fin 8192) (e : Fin 64) :
    (after (hostOps0 (F := Ideal)) V (Proc.devRef .tc main_v185) (ix2 s e) : EReal) = ((-(nz (s.val * 64 + e.val)) : ℝ) : EReal) := by
  have hlt : s.val * 64 + e.val < 524288 := by omega
  have hm := mant_of V (s.val * 64 + e.val) (ix1 ⟨s.val * 64 + e.val, hlt⟩) rfl
  rw [a_noise, EReal.coe_neg, nz, hm]
  refine (noiseOf_apply _ s e hlt).trans ?_
  rw [frac]

/-- The lines of the sort, and of the writing of the places, have their results numbered in order. -/
noncomputable def ssa1 : Ssa (hostOps0_1 (F := Ideal)) where
  W := hostOps0_1_W
  hW := rfl
  base := 249
  hs := by decide +kernel

/-- The third stretch of host operations, each buffer written once. -/
noncomputable def ssa2 : Ssa (hostOps0_2 (F := Ideal)) where
  W := hostOps0_2_W
  hW := rfl
  base := 252
  hs := by decide +kernel

/-- The fourth stretch of host operations, each buffer written once. -/
noncomputable def ssa3 : Ssa (hostOps0_3 (F := Ideal)) where
  W := hostOps0_3_W
  hW := rfl
  base := 256
  hs := by decide +kernel

/-- The tokens of an expert in order of falling noise. -/
def order (x : FVec Ideal S8192x64 .f32) : IVec S8192x64 32 :=
  (Host.sort2 S8192x64 0 (comparator_f32_i32_d0 (F := Ideal)) x (iotaInDim S8192x64 32 0)).2

/-- The order buffer is the sorted order of the noise. -/
theorem a_order : after (hostOps0_1 (F := Ideal)) V (Proc.devRef .tc main_v186) = order (V (Proc.devRef .tc main_v185)) := by
  refine (ssa1.pbin V 2 rfl (by decide) (by decide)).trans ?_
  rw [ssa1.arg V (x := main_v185) (by decide), ssa1.pnul V 0 rfl]
  simp only [TRef.ofBuf_toBuf]
  rfl

/-- Two index arrays side by side. -/
def pair (a b : IVec S8192x64x1 32) : IVec S8192x64x2 32 :=
  concatenate S8192x64x2 2 [⟨S8192x64x1, a⟩, ⟨S8192x64x1, b⟩] concatenates_S8192x64x1_S8192x64x1_S8192x64x2_d2

/-- The rows written to: a negative index counts from the end. -/
def rows (o : IVec S8192x64 32) : IVec S8192x64x1 32 :=
  broadcastInDim S8192x64x1 ![0, 1] bcast_S8192x64_S8192x64x1_0_1
    (select (cmpi .slt o (broadcastInDim S8192x64 ![] bcast_S_S8192x64 (constantI S_ 32 0#32)))
      (addi o (broadcastInDim S8192x64 ![] bcast_S_S8192x64 (constantI S_ 32 8192#32))) o)

/-- The columns written to. -/
def cols : IVec S8192x64x1 32 :=
  broadcastInDim S8192x64x1 ![0, 1] bcast_S8192x64_S8192x64x1_0_1
    (broadcastInDim S8192x64 ![0, 1] bcast_S1x64_S8192x64_0_1
      (select (cmpi .slt (broadcastInDim S1x64 ![1] bcast_S64_S1x64_1 (iotaInDim S64 32 0)) (broadcastInDim S1x64 ![] bcast_S_S1x64 (constantI S_ 32 0#32)))
        (addi (broadcastInDim S1x64 ![1] bcast_S64_S1x64_1 (iotaInDim S64 32 0)) (broadcastInDim S1x64 ![] bcast_S_S1x64 (constantI S_ 32 64#32)))
        (broadcastInDim S1x64 ![1] bcast_S64_S1x64_1 (iotaInDim S64 32 0))))

/-- The entries written to. -/
def target (o : IVec S8192x64 32) : IVec S8192x64x2 32 := pair (rows o) cols

/-- The row an order entry is scattered to. -/
theorem target_row (o : IVec S8192x64 32) (p : Fin 8192) (e : Fin 64) : target o (ix3 p e 0)
    = Scalar.select (IntOp.cmpi .slt (o (ix2 p e)) 0#32) (IntOp.addi (o (ix2 p e)) 8192#32) (o (ix2 p e)) := by
  pointwise [target, pair, rows, cols]

/-- The column an order entry is scattered to. -/
theorem target_col (o : IVec S8192x64 32) (p : Fin 8192) (e : Fin 64) : target o (ix3 p e 1)
    = Scalar.select (IntOp.cmpi .slt (BitVec.ofNat 32 e.val) 0#32) (IntOp.addi (BitVec.ofNat 32 e.val) 64#32) (BitVec.ofNat 32 e.val) := by
  pointwise [target, pair, rows, cols]

/-- The places written into the table. -/
def table (z o q : IVec S8192x64 32) : IVec S8192x64 32 :=
  Host.scatter scatter_S8192x64_S8192x64x2_S8192x64_n_01_01_2 (fun _ b => b) z (target o) q

/-- The table buffer, from the order. -/
theorem a_table : after (hostOps0_3 (F := Ideal)) V (Proc.devRef .tc main_v190)
    = table (V (Proc.devRef .tc main_v187)) (V (Proc.devRef .tc main_v186))
      (broadcastInDim S8192x64 ![0, 1] bcast_S8192x1_S8192x64_0_1 (V (Proc.devRef .tc main_v189))) := by
  have hp : after (hostOps0_3 (F := Ideal)) V (Proc.devRef .tc main_call1_v18) = pair (after (hostOps0_3 (F := Ideal)) V (Proc.devRef .tc main_call1_v16))
      (after (hostOps0_3 (F := Ideal)) V (Proc.devRef .tc main_call1_v17)) := (ssa3.pbin V 22 rfl (by decide) (by decide)).trans rfl
  have hr : after (hostOps0_3 (F := Ideal)) V (Proc.devRef .tc main_call1_v16) = rows (V (Proc.devRef .tc main_v186)) := by
    refine (ssa3.pun V 20 rfl (by decide)).trans ?_
    rw [ssa3.tern V main_call1_v6 main_call1_v8 main_v186 main_call1_v9 rfl,
      ssa3.pbin V 7 rfl (by decide) (by decide), ssa3.pun V 6 rfl (by decide), ssa3.pnul V 5 rfl,
      ssa3.pbin V 10 rfl (by decide) (by decide), ssa3.pun V 9 rfl (by decide), ssa3.pnul V 8 rfl,
      ssa3.arg V (x := main_v186) (by decide)]
    simp only [TRef.ofBuf_toBuf]
    rfl
  have hc : after (hostOps0_3 (F := Ideal)) V (Proc.devRef .tc main_call1_v17) = cols := by
    refine (ssa3.pun V 21 rfl (by decide)).trans ?_
    rw [ssa3.pun V 19 rfl (by decide),
      ssa3.tern V main_call1_v11 main_call1_v13 main_call1_v4 main_call1_v14 rfl,
      ssa3.pbin V 14 rfl (by decide) (by decide), ssa3.pun V 13 rfl (by decide), ssa3.pnul V 12 rfl,
      ssa3.pbin V 17 rfl (by decide) (by decide), ssa3.pun V 16 rfl (by decide), ssa3.pnul V 15 rfl,
      ssa3.pun V 4 rfl (by decide), ssa3.pnul V 3 rfl]
    simp only [TRef.ofBuf_toBuf]
    rfl
  refine (ssa3.tern V main_v187 main_call1_v18 main_call1_v0 main_v190 rfl).trans ?_
  rw [hp, hr, hc, ssa3.arg V (x := main_v187) (by decide), ssa3.pun V 0 rfl (by decide), ssa3.arg V (x := main_v189) (by decide)]
  simp only [TRef.ofBuf_toBuf]
  unfold table target
  generalize pair _ _ = p
  generalize V (Proc.devRef .tc main_v187) = z
  generalize V (Proc.devRef .tc main_v189) = q
  refine (show ∀ x : IVec S8192x64 32, TRef.toBuf (Val := Elt Ideal) (TRef.of main_v190 hostOps0_3._proof_76 hostOps0_3._proof_77 hostOps0_3._proof_78) x = x from fun _ => rfl) _

/-- The tokens' positions. -/
theorem a_pos : after (hostOps0_2 (F := Ideal)) V (Proc.devRef .tc main_v189)
    = broadcastInDim S8192x1 ![0] bcast_S8192_S8192x1_0 (iotaInDim S8192 32 0) := by
  rw [ssa2.pun V 3 rfl (by decide), ssa2.pnul V 2 rfl]

/-- A token's key in the order of falling noise of an expert. -/
def key (e : Fin 64) (s : Fin 8192) : ℝ := -(nz (s.val * 64 + e.val))

/-- The order of the tokens at an entry. -/
theorem order_apply (x : FVec Ideal S8192x64 .f32) (hx : ∀ s e, (x (ix2 s e) : EReal) = ((key e s : ℝ) : EReal)) (p : Fin 8192) (e : Fin 64) :
    order x (ix2 p e) = BitVec.ofNat 32 (sortedFrom (fun a b => decide (key e a < key e b)) p).val := by
  refine (sort2_ix2 _ _ _ p e).trans ?_
  have hR : (fun k k' : Fin 8192 => comparator_f32_i32_d0 (F := Ideal) (x (ix2 k e), iotaInDim S8192x64 32 0 (ix2 k e))
      (x (ix2 k' e), iotaInDim S8192x64 32 0 (ix2 k' e)) == 1#1) = fun a b => decide (key e a < key e b) := by
    funext a b
    rw [show x (ix2 a e) = _ from hx a e, show x (ix2 b e) = _ from hx b e]
    exact comparator_real _ _ _ _
  rw [hR]
  rfl

/-- The table that the routing kernel gets: each token's place in the order of falling noise of each expert. -/
theorem rank_table (m : (ℓ : Loc nD τ sig) → Buf (Elt Ideal) ℓ) (ρ : Dev nD → PrngReg) (c : Dev nD) :
    ∃ rk : Fin 64 → Fin 8192 → Fin 8192, (∀ e, Function.Bijective (rk e)) ∧ (∀ e t s, rk e t < rk e s ↔ Before (key e) t s)
      ∧ ∀ s e, W4 m ρ c (Proc.devRef .tc main_v190) (ix2 s e) = BitVec.ofNat 32 (rk e s).val := by
  choose rk h1 h2 h3 using fun e : Fin 64 => exists_place (key e) (fun a b => decide (key e a < key e b)) fun _ _ => rfl
  refine ⟨rk, fun e => ⟨fun a b h => by rw [← h1 e a, ← h1 e b, h], fun p => ⟨_, h2 e p⟩⟩, h3, fun s e => ?_⟩
  have hx : ∀ s e, (W1 m ρ c (Proc.devRef .tc main_v185) (ix2 s e) : EReal) = ((key e s : ℝ) : EReal) := fun s e => v185_eq _ s e
  have ho : W3 m ρ c (Proc.devRef .tc main_v186) = order (W1 m ρ c (Proc.devRef .tc main_v185)) :=
    (ssa2.arg _ (x := main_v186) (by decide)).trans (a_order _)
  rw [show W4 m ρ c (Proc.devRef .tc main_v190) = _ from a_table _, ho,
    show W3 m ρ c (Proc.devRef .tc main_v189) = _ from a_pos _]
  generalize W1 m ρ c (Proc.devRef .tc main_v185) = x at hx ⊢
  have hlt : ∀ k : Fin 8192, k.val < 2147483648 := fun k => by omega
  have hlt2 : ∀ k : Fin 64, k.val < 2147483648 := fun k => by omega
  refine scatter_hit _ rfl rfl rfl _ _ _ (fun p e => sortedFrom (fun a b => decide (key e a < key e b)) p) (fun p e => ?_) (fun p e => ?_)
    e s _ (fun p hp => ?_) (rk e s) (h1 e s)
  · rw [target_row, order_apply x hx, Routing.wrap_of_lt _ _ (by rw [BitVec.toNat_ofNat]; omega), toInt_ofNat (hlt _)]
  · rw [target_col, Routing.wrap_of_lt _ _ (by rw [BitVec.toNat_ofNat]; omega), toInt_ofNat (hlt2 _)]
  · rw [← hp, h2]
    pointwise

end KNoise

end Cert.Proof

end
-- ==== Proof.RTop.lean ====
/- The reference's choice of tokens: the greatest noises of each expert's tokens, marked in a table. -/
module

public import proofs.«01_k».proof.Proof.RNoise
public import proofs.«01_k».proof.Proof.KRank
public import proofs.«01_k».proof.Proof.Chosen

@[expose] public section

set_option maxRecDepth 16384

noncomputable section

namespace Cert.Proof.RTop

open Idealize.ShloMosaic Idealize.ShloMosaic.StableHlo Cert.ReferenceIdeal Cert.Proof.Mant Cert.Proof.Ssa Cert.Proof.Sorted Cert.Proof.Chosen
open Cert.Proof.RefRun (ops ssa Fl In)
open Cert.ReferenceIdeal.Facts₀ Cert.ReferenceIdeal.Facts

variable (V : Valuation τ sig (Elt Ideal))

/-- A sort of pairs along the second axis, the second component being the positions: the sorted positions. -/
theorem sort2_ix2 {α : Type} {R C : ℕ} (cmp : α × BitVec 32 → α × BitVec 32 → BitVec 1) (x : (⟨2, ![C, R]⟩ : Shape).Idx → α)
    (y : (⟨2, ![C, R]⟩ : Shape).Idx → BitVec 32) (p : Fin R) (e : Fin C) :
    (Host.sort2 (⟨2, ![C, R]⟩ : Shape) 1 cmp x y).2 (ix2 e p)
      = y (ix2 e (sortedFrom (fun k k' => cmp (x (ix2 e k), y (ix2 e k)) (x (ix2 e k'), y (ix2 e k')) == 1#1) p)) := by
  have ha : ∀ k : Fin R, (ix2 e p : (⟨2, ![C, R]⟩ : Shape).Idx).along 1 k = ix2 e k := by
    intro k
    funext a
    match a with
    | ⟨0, _⟩ => rfl
    | ⟨1, _⟩ => rfl
  have hf : (fun k : Fin R => (ix2 e p : (⟨2, ![C, R]⟩ : Shape).Idx).along 1 k) = fun k => ix2 e k := funext ha
  exact congrArg (fun g : Fin R → (⟨2, ![C, R]⟩ : Shape).Idx =>
    y (g (sortedFrom (fun k k' => cmp (x (g k), y (g k)) (x (g k'), y (g k')) == 1#1) p))) hf

/-- The masked noise, an expert to a row. -/
def masked (o : In S8192x64) (z : Fl S8192x64) : Fl S64x8192 :=
  transpose S64x8192 [1, 0] (mulf (F := Ideal) (φ := .f32) (sitofp (F := Ideal) .f32 o) z) transposes_S8192x64_S64x8192_1_0

/-- The tokens of the greatest masked noises of each expert. -/
def best (a : Fl S64x8192) : In S64x128 :=
  (Host.topK S64x128 1 (FloatOps.cmpfTotal (F := Ideal) (φ := .f32) .gt) a sliceFits_S64x8192_S64x128).2

/-- The rows marked: a negative index counts from the end. -/
def rows (t : In S128x64) : In S128x64x1 :=
  broadcastInDim S128x64x1 ![0, 1] bcast_S128x64_S128x64x1_0_1
    (select (cmpi .slt t (broadcastInDim S128x64 ![] bcast_S_S128x64 (constantI S_ 32 0#32)))
      (addi t (broadcastInDim S128x64 ![] bcast_S_S128x64 (constantI S_ 32 8192#32))) t)

/-- The columns marked. -/
def cols : In S128x64x1 :=
  broadcastInDim S128x64x1 ![0, 1] bcast_S128x64_S128x64x1_0_1
    (broadcastInDim S128x64 ![0, 1] bcast_S1x64_S128x64_0_1
      (select (cmpi .slt (broadcastInDim S1x64 ![1] bcast_S64_S1x64_1 (iotaInDim S64 32 0)) (broadcastInDim S1x64 ![] bcast_S_S1x64 (constantI S_ 32 0#32)))
        (addi (broadcastInDim S1x64 ![1] bcast_S64_S1x64_1 (iotaInDim S64 32 0)) (broadcastInDim S1x64 ![] bcast_S_S1x64 (constantI S_ 32 64#32)))
        (broadcastInDim S1x64 ![1] bcast_S64_S1x64_1 (iotaInDim S64 32 0))))

/-- The entries marked. -/
def target (t : In S128x64) : In S128x64x2 :=
  concatenate S128x64x2 2 [⟨S128x64x1, rows t⟩, ⟨S128x64x1, cols⟩] concatenates_S128x64x1_S128x64x1_S128x64x2_d2

/-- The table of marks. -/
def marks (b : In S64x128) : In S8192x64 :=
  Host.scatter scatter_S8192x64_S128x64x2_S128x64_n_01_01_2 (fun _ b => b)
    (broadcastInDim S8192x64 ![] bcast_S_S8192x64 (constantI S_ 32 0#32))
    (target (transpose S128x64 [1, 0] b transposes_S64x128_S128x64_1_0))
    (broadcastInDim S128x64 ![] bcast_S_S128x64 (constantI S_ 32 1#32))

/-- The masked noise at an expert and a token. -/
theorem masked_apply (o : In S8192x64) (z : Fl S8192x64) (s : Fin 8192) (e : Fin 64) :
    (masked o z (ix2 e s) : EReal) = (((o (ix2 s e) : BitVec 32).toInt : ℝ) : EReal) * z (ix2 s e) := by
  pointwise [masked]
  rfl

/-- The row a mark is scattered to. -/
theorem target_row (b : In S64x128) (p : Fin 128) (e : Fin 64) :
    target (transpose S128x64 [1, 0] b transposes_S64x128_S128x64_1_0) (ix3 p e 0)
      = Scalar.select (IntOp.cmpi .slt (b (ix2 e p)) 0#32) (IntOp.addi (b (ix2 e p)) 8192#32) (b (ix2 e p)) := by
  pointwise [target, rows, cols]

/-- The column a mark is scattered to. -/
theorem target_col (t : In S128x64) (p : Fin 128) (e : Fin 64) : target t (ix3 p e 1)
    = Scalar.select (IntOp.cmpi .slt (BitVec.ofNat 32 e.val) 0#32) (IntOp.addi (BitVec.ofNat 32 e.val) 64#32) (BitVec.ofNat 32 e.val) := by
  pointwise [target, rows, cols]

/-- The masked noise buffer, from the mask and the noise. -/
theorem a_masked : after ops V (Proc.devRef .tc main_v36)
    = masked (after ops V (Proc.devRef .tc main_v14)) (after ops V (Proc.devRef .tc main_v33)) := by
  rw [ssa.pun V 321 rfl (by decide), ssa.pbin V 320 rfl (by decide) (by decide), ssa.pun V 319 rfl (by decide)]
  rfl

/-- The marks buffer, from the masked noise. -/
theorem a_marks : after ops V (Proc.devRef .tc main_v56) = marks (best (after ops V (Proc.devRef .tc main_v36))) := by
  have hr : after ops V (Proc.devRef .tc main_v52) = rows (after ops V (Proc.devRef .tc main_v38)) := by
    rw [ssa.pun V 344 rfl (by decide), ssa.tern V main_v42 main_v44 main_v38 main_v45 rfl, ssa.pbin V 331 rfl (by decide) (by decide),
      ssa.pun V 330 rfl (by decide), ssa.pnul V 329 rfl, ssa.pbin V 334 rfl (by decide) (by decide), ssa.pun V 333 rfl (by decide),
      ssa.pnul V 332 rfl]
    rfl
  have hc : after ops V (Proc.devRef .tc main_v53) = cols := by
    rw [ssa.pun V 345 rfl (by decide), ssa.pun V 343 rfl (by decide), ssa.tern V main_v47 main_v49 main_v40 main_v50 rfl,
      ssa.pbin V 338 rfl (by decide) (by decide),
      ssa.pun V 337 rfl (by decide), ssa.pnul V 336 rfl, ssa.pbin V 341 rfl (by decide) (by decide), ssa.pun V 340 rfl (by decide),
      ssa.pnul V 339 rfl, ssa.pun V 328 rfl (by decide), ssa.pnul V 327 rfl]
    rfl
  have ht : after ops V (Proc.devRef .tc main_v54) = target (after ops V (Proc.devRef .tc main_v38)) := by
    rw [target, ← hr, ← hc]
    exact ssa.pbin V 346 rfl (by decide) (by decide)
  rw [ssa.tern V main_v37 main_v54 main_v55 main_v56 rfl, ht, ssa.pun V 326 rfl (by decide), ssa.pun V 323 rfl (by decide),
    ssa.pun V 325 rfl (by decide), ssa.pnul V 324 rfl, ssa.pun V 348 rfl (by decide), ssa.pnul V 347 rfl]
  rfl

/-- The best tokens of an expert, by their places in the sorted order. -/
theorem best_apply (a : Fl S64x8192) (x : Fin 64 → Fin 8192 → ℝ) (ha : ∀ e s, (a (ix2 e s) : EReal) = ((-(x e s) : ℝ) : EReal))
    (p : Fin 128) (e : Fin 64) :
    best a (ix2 e p) = BitVec.ofNat 32 (sortedFrom (fun k k' => decide (x e k < x e k')) ⟨p.val, by omega⟩).val := by
  have hR : (fun k k' : Fin 8192 => FloatOps.cmpfTotal (F := Ideal) (φ := .f32) .gt (a (ix2 e k)) (a (ix2 e k')) == 1#1)
      = fun k k' => decide (x e k < x e k') := by
    funext k k'
    show (Ideal.cmp .ogt (a (ix2 e k)) (a (ix2 e k')) == 1#1) = _
    rw [show a (ix2 e k) = _ from ha e k, show a (ix2 e k') = _ from ha e k']
    by_cases h : x e k < x e k' <;> simp [Ideal.cmp, h]
  rw [← hR]
  let idx : IVec S64x8192 32 := fun i => iotaInDim S64x8192 32 1 i
  have h1 : best a (ix2 e p) = (Host.sort2 (⟨2, ![64, 8192]⟩ : Shape) 1
      (fun l r : EReal × BitVec 32 => FloatOps.cmpfTotal (F := Ideal) (φ := .f32) .gt l.1 r.1) a idx).2 (ix2 e ⟨p.val, by omega⟩) := by
    refine congrArg (Host.sort2 (⟨2, ![64, 8192]⟩ : Shape) 1
      (fun l r : EReal × BitVec 32 => FloatOps.cmpfTotal (F := Ideal) (φ := .f32) .gt l.1 r.1) a idx).2 (funext fun b => ?_)
    match b with
    | ⟨0, _⟩ => exact Fin.ext (Nat.zero_add _)
    | ⟨1, _⟩ => exact Fin.ext (Nat.zero_add _)
  rw [h1, sort2_ix2]
  rfl

open scoped Classical in
/-- The marks of the tokens that chose the expert: the tokens kept. -/
theorem kept_eq (pk : Fin 8192 → Fin 64) (o : In S8192x64) (ho : ∀ s e, o (ix2 s e) = if pk s = e then 1#32 else 0#32)
    (z : Fl S8192x64) (hz : ∀ s e, (z (ix2 s e) : EReal) = ((nz (s.val * 64 + e.val) : ℝ) : EReal)) (s : Fin 8192) (e : Fin 64) :
    muli o (marks (best (masked o z))) (ix2 s e)
      = if Kept (fun t => pk t = e) (KNoise.key e) 128 s then 1#32 else 0#32 := by
  show o (ix2 s e) * marks (best (masked o z)) (ix2 s e) = _
  rw [ho]
  by_cases hs : pk s = e
  swap
  · rw [if_neg hs, if_neg fun h => hs h.1]
    exact BitVec.zero_mul
  have hm : ∀ e s, (masked o z (ix2 e s) : EReal) = ((-(if pk s = e then KNoise.key e s else 0) : ℝ) : EReal) := by
    intro e s
    rw [masked_apply, ho, hz]
    by_cases h : pk s = e
    · rw [if_pos h, if_pos h, KNoise.key, neg_neg, show (1#32 : BitVec 32).toInt = 1 from rfl]
      simp
    · rw [if_neg h, if_neg h, show (0#32 : BitVec 32).toInt = 0 from rfl]
      simp
  generalize masked o z = a at hm
  have hb := best_apply a (fun e s => if pk s = e then KNoise.key e s else 0) hm
  choose rk h1 h2 h3 using fun e : Fin 64 => exists_place (fun s => if pk s = e then KNoise.key e s else 0)
    (fun k k' => decide ((if pk k = e then KNoise.key e k else 0) < (if pk k' = e then KNoise.key e k' else 0))) fun _ _ => rfl
  have hneg : ∀ s, KNoise.key e s < 0 := fun s => by
    have := nz_pos (s.val * 64 + e.val) (by omega)
    rw [KNoise.key]
    linarith
  have hk := place_kept (fun t => pk t = e) (KNoise.key e) hneg (rk e)
    ⟨fun a b h => by rw [← h1 e a, ← h1 e b, h], fun p => ⟨_, h2 e p⟩⟩ (h3 e) 128 s hs
  have hlt : ∀ k : Fin 8192, k.val < 2147483648 := fun k => by omega
  have hlt2 : ∀ k : Fin 64, k.val < 2147483648 := fun k => by omega
  let f : Fin 128 → Fin 64 → Fin 8192 := fun p e =>
    sortedFrom (fun k k' => decide ((if pk k = e then KNoise.key e k else 0) < (if pk k' = e then KNoise.key e k' else 0))) ⟨p.val, by omega⟩
  have hr : ∀ p e, (target (transpose S128x64 [1, 0] (best a) transposes_S64x128_S128x64_1_0) (ix3 p e 0)).toInt = (f p e).val := by
    intro p e
    rw [target_row, hb, Routing.wrap_of_lt _ _ (by rw [BitVec.toNat_ofNat]; omega), toInt_ofNat (hlt _)]
  have hc : ∀ p e, (target (transpose S128x64 [1, 0] (best a) transposes_S64x128_S128x64_1_0) (ix3 p e 1)).toInt = e.val := by
    intro p e
    rw [target_col, Routing.wrap_of_lt _ _ (by rw [BitVec.toNat_ofNat]; omega), toInt_ofNat (hlt2 _)]
  rw [if_pos hs]
  by_cases hp : (rk e s).val < 128
  · rw [if_pos (hk.1 hp), marks, scatter_hit _ rfl rfl rfl _ _ _ f hr hc e s 1#32 (fun p _ => by pointwise) ⟨(rk e s).val, hp⟩ (h1 e s)]
    rfl
  · rw [if_neg fun h => hp (hk.2 h), marks, scatter_miss _ rfl rfl rfl _ _ _ f hr hc e s fun p h => hp ?_]
    · pointwise
      rfl
    · have : rk e s = ⟨p.val, by omega⟩ := by rw [← h]; exact h2 e _
      rw [this]
      exact p.isLt

end Cert.Proof.RTop

end
-- ==== Proof.RPos.lean ====
/- The reference's places of the kept tokens, and the tensor it combines by. -/
module

public import proofs.«01_k».proof.Proof.RTop
public import proofs.«01_k».proof.Proof.Gate
public import Idealize.ShloMosaic.Lib.Routing.OpsOne

@[expose] public section

set_option maxRecDepth 16384

noncomputable section

namespace Cert.Proof.RPos

open Idealize.ShloMosaic Idealize.ShloMosaic.StableHlo Cert.ReferenceIdeal Cert.Proof.Mant Cert.Proof.Ssa Cert.Proof.Sorted Cert.Proof.Chosen
open Cert.Proof.RefRun (ops ssa Fl In)
open Cert.ReferenceIdeal.Facts₀ Cert.ReferenceIdeal.Facts

variable (V : Valuation τ sig (Elt Ideal))

/-- The running sums down the columns. -/
def run (n : In S8192x64) : In S8192x64 :=
  Host.reduceWindow IntOp.addi ![8192, 1] ![1, 1] ![8191, 0] ![0, 0] n (broadcastInDim S_ ![] bcast_S_S_ (constantI S_ 32 0#32))
    reduceWindows_S8192x64_S8192x64_w8192s1p8191_0_w1s1p0_0 h_S_

/-- Each token's place among the tokens kept. -/
def place (n : In S8192x64) : In S8192 :=
  Host.reduce IntOp.addi (muli (subi (run n) (broadcastInDim S8192x64 ![] bcast_S_S8192x64 (constantI S_ 32 1#32))) n)
    (constantI S_ 32 0#32) reducesTo_S8192x64_S8192_d1 h_S_

/-- The gate at the token, the expert and the place. -/
def comb (g : Fl S8192x64) (n : In S8192x64) (p : In S8192) : Fl S8192x64x128 :=
  mulf (F := Ideal) (φ := .f32)
    (broadcastInDim S8192x64x128 ![0, 1, 2] bcast_S8192x64x1_S8192x64x128_0_1_2
      (broadcastInDim S8192x64x1 ![0, 1] bcast_S8192x64_S8192x64x1_0_1 (mulf (F := Ideal) (φ := .f32) g (sitofp (F := Ideal) .f32 n))))
    (broadcastInDim S8192x64x128 ![0, 1, 2] bcast_S8192x1x128_S8192x64x128_0_1_2
      (broadcastInDim S8192x1x128 ![0, 2] bcast_S8192x128_S8192x1x128_0_2
        (uitofp (F := Ideal) .f32 (cmpi .eq
          (broadcastInDim S8192x128 ![0, 1] bcast_S8192x1_S8192x128_0_1 (broadcastInDim S8192x1 ![0] bcast_S8192_S8192x1_0 p))
          (broadcastInDim S8192x128 ![0, 1] bcast_S1x128_S8192x128_0_1 (iotaInDim S1x128 32 1))))))

/-- The buffer of positions, from the kept marks. -/
theorem a_place : after ops V (Proc.devRef .tc main_v62) = place (after ops V (Proc.devRef .tc main_v57)) := by
  have h : rd ops V (.of main_v58) = run (after ops V (Proc.devRef .tc main_v57)) := by
    refine (ssa.tbin V 353 rfl (by decide) (by decide)).trans ?_
    rw [ssa.tun V 352 rfl (by decide), ssa.tnul V 351 rfl]
    rfl
  have h' : after ops V (Proc.devRef .tc main_v58) = run (after ops V (Proc.devRef .tc main_v57)) := h
  rw [ssa.pbin V 359 rfl (by decide) (by decide), ssa.pbin V 357 rfl (by decide) (by decide), ssa.pbin V 356 rfl (by decide) (by decide), h',
    ssa.pun V 355 rfl (by decide), ssa.pnul V 354 rfl, ssa.pnul V 358 rfl]
  rfl

/-- The combining buffer, from the gates, the kept marks and the positions. -/
theorem a_comb : after ops V (Proc.devRef .tc main_v70)
    = comb (after ops V (Proc.devRef .tc main_v12)) (after ops V (Proc.devRef .tc main_v57)) (after ops V (Proc.devRef .tc main_v62)) := by
  have h : rd ops V (.of main_v65) = uitofp (F := Ideal) .f32 (cmpi .eq
          (broadcastInDim S8192x128 ![0, 1] bcast_S8192x1_S8192x128_0_1
            (broadcastInDim S8192x1 ![0] bcast_S8192_S8192x1_0 (after ops V (Proc.devRef .tc main_v62))))
          (broadcastInDim S8192x128 ![0, 1] bcast_S1x128_S8192x128_0_1 (iotaInDim S1x128 32 1))) := by
    refine (ssa.tun V 367 rfl (by decide)).trans ?_
    rw [ssa.tbin V 366 rfl (by decide) (by decide), ssa.tun V 364 rfl (by decide), ssa.tun V 362 rfl (by decide),
      ssa.tun V 365 rfl (by decide), ssa.tnul V 363 rfl]
    rfl
  rw [ssa.pbin V 372 rfl (by decide) (by decide), ssa.pun V 370 rfl (by decide), ssa.pun V 368 rfl (by decide),
    ssa.pbin V 361 rfl (by decide) (by decide), ssa.pun V 360 rfl (by decide), ssa.pun V 371 rfl (by decide),
    ssa.pun V 369 rfl (by decide), show after ops V (Proc.devRef .tc main_v65) = _ from h]
  rfl

/-- The dispatching buffer is where the combining one is not zero. -/
theorem a_dispatch : after ops V (Proc.devRef .tc main_v73)
    = cmpf (F := Ideal) (φ := .f32) .une (after ops V (Proc.devRef .tc main_v70))
      (broadcastInDim S8192x64x128 ![] bcast_S_S8192x64x128 (constant (F := Ideal) S_ .f32 0x00000000#32)) := by
  rw [ssa.pun V 376 rfl (by decide), ssa.pbin V 375 rfl (by decide) (by decide), ssa.pun V 374 rfl (by decide), ssa.pnul V 373 rfl]
  rfl

/-- A fold of additions is a sum. -/
theorem fold_sum {ι : Type} (S : Finset ι) (f : ι → BitVec 32) : Finset.fold IntOp.addi 0#32 f S = ∑ x ∈ S, f x := by
  classical
  induction S using Finset.induction_on with
  | empty => rfl
  | insert a S ha ih => rw [Finset.fold_insert ha, ih, Finset.sum_insert ha]; rfl

/-- A token's place among the tokens kept by its expert; nought for a token not kept. -/
def loc (pk : Fin 8192 → Fin 64) (K : Fin 64 → Fin 8192 → Prop) (s : Fin 8192) : ℕ :=
  open scoped Classical in
  if K (pk s) s then (Finset.univ.filter fun t => t < s ∧ K (pk s) t).card else 0

open scoped Classical in
/-- The running sum of the marks counts the kept tokens so far. -/
theorem run_apply (K : Fin 64 → Fin 8192 → Prop) (n : In S8192x64) (hn : ∀ s e, n (ix2 s e) = if K e s then 1#32 else 0#32)
    (s : Fin 8192) (e : Fin 64) :
    run n (ix2 s e) = BitVec.ofNat 32 (Finset.univ.filter fun t => t ≤ s ∧ K e t).card := by
  have h : run n (ix2 s e) = ∑ w : Fin 8192, if w ≤ s then n (ix2 w e) else 0 := by
    have := Routing.cumsum_rows_sum (A := 8192) (Am1 := 8191) (N := 64) rfl n
      (broadcastInDim S_ ![] bcast_S_S_ (constantI S_ 32 0#32)) rfl reduceWindows_S8192x64_S8192x64_w8192s1p8191_0_w1s1p0_0 h_S_ s e
    simp only [← ix2_eq_valueIdx] at this
    exact this
  rw [h, ← fold_sum, ← Tok.fold_addi]
  refine Finset.fold_congr fun w _ => ?_
  rw [hn]
  by_cases h1 : w ≤ s <;> by_cases h2 : K e w <;> simp [h1, h2]

/-- A token's position as a sum over the experts. -/
theorem place_fold (n : In S8192x64) (s : Fin 8192) :
    place n (ix1 s) = Finset.fold IntOp.addi 0#32 (fun e : Fin 64 => IntOp.muli (IntOp.subi (run n (ix2 s e)) 1#32) (n (ix2 s e))) Finset.univ := by
  pointwise [place]

open scoped Classical in
/-- A token's position is the number of kept tokens of its expert before it. -/
theorem place_apply (pk : Fin 8192 → Fin 64) (K : Fin 64 → Fin 8192 → Prop) (hK : ∀ e s, K e s → pk s = e) (n : In S8192x64)
    (hn : ∀ s e, n (ix2 s e) = if K e s then 1#32 else 0#32) (s : Fin 8192) :
    place n (ix1 s) = BitVec.ofNat 32 (loc pk K s) := by
  rw [place_fold, fold_sum]
  have h : ∀ e : Fin 64, IntOp.muli (IntOp.subi (run n (ix2 s e)) 1#32) (n (ix2 s e))
      = if e = pk s then BitVec.ofNat 32 (loc pk K s) else 0#32 := by
    intro e
    rw [run_apply K n hn, hn]
    by_cases he : e = pk s
    · subst he
      rw [if_pos rfl, loc]
      by_cases hk : K (pk s) s
      · rw [if_pos hk, if_pos hk]
        have hc : (Finset.univ.filter fun t => t ≤ s ∧ K (pk s) t).card = (Finset.univ.filter fun t => t < s ∧ K (pk s) t).card + 1 := by
          rw [← Finset.card_insert_of_notMem (a := s) (by simp)]
          refine congrArg Finset.card (Finset.ext fun t => ?_)
          simp only [Finset.mem_filter, Finset.mem_univ, true_and, Finset.mem_insert]
          constructor
          · rintro ⟨h1, h2⟩
            rcases eq_or_lt_of_le h1 with h | h
            · exact Or.inl h
            · exact Or.inr ⟨h, h2⟩
          · rintro (rfl | ⟨h1, h2⟩)
            · exact ⟨le_refl _, hk⟩
            · exact ⟨h1.le, h2⟩
        rw [hc, BitVec.ofNat_add]
        show (_ + 1#32 - 1#32) * 1#32 = _
        rw [BitVec.add_sub_cancel, BitVec.mul_one]
      · rw [if_neg hk, if_neg hk]
        exact BitVec.mul_zero
    · rw [if_neg he, if_neg fun hk => he (hK e s hk).symm]
      exact BitVec.mul_zero
  refine (Finset.sum_congr rfl fun e _ => h e).trans ?_
  refine (Finset.sum_eq_single (pk s) ?_ fun h => absurd (Finset.mem_univ _) h).trans (if_pos rfl)
  intro e _ he
  exact if_neg he

/-- An entry of the combining tensor: gate times mark times position hit. -/
theorem comb_apply (g : Fl S8192x64) (n : In S8192x64) (p : In S8192) (s : Fin 8192) (e : Fin 64) (q : Fin 128) :
    (comb g n p (ix3 s e q) : EReal) = (g (ix2 s e) * (((n (ix2 s e) : BitVec 32).toInt : ℝ) : EReal))
      * (((IntOp.cmpi .eq (p (ix1 s)) (BitVec.ofNat 32 q.val) : BitVec 1).toNat : ℝ) : EReal) := by
  pointwise [comb]
  rfl

end Cert.Proof.RPos

end
-- ==== Proof.KLoc.lean ====
/- The kernel's places of the kept tokens, counted chunk by chunk. -/
module

public import proofs.«01_k».proof.Proof.Route
public import proofs.«01_k».proof.Proof.KSel
public import proofs.«01_k».proof.Proof.RPos

@[expose] public section

set_option maxRecDepth 16384

noncomputable section

namespace Cert.Proof.KLoc

open Idealize.ShloMosaic Cert.KernelIdeal Cert.KernelIdeal.Gen

/-- The places in one chunk, after what the chunks before it count. -/
def cnt (off : FVec Ideal S1x64 .f32) (ch : FVec Ideal S512x64 .f32) : FVec Ideal S512x1 .f32 :=
  shapeCast S512x1 (multiReduction (F := Ideal) .add [1] S512
    (mulf (F := Ideal) ch (subf (F := Ideal)
      (addf (F := Ideal) (matmul (F := Ideal) dot_S512x512_S512x64_S512x64_1_0_0_1_n_n none (k0_pay18 (F := Ideal)) ch (constant (F := Ideal) S512x64 .f32 0x00000000#32))
        (broadcastTo S512x64 off broadcasts_S1x64_S512x64))
      (broadcast S512x64 (Scalar.ofBits (F := Ideal) .f32 0x3F800000#32))))
    0x00000000#32 reduces_S512x64_S512 (.inl rfl) rfl) shapeCasts_S512_S512x1

/-- The counts with one chunk more. -/
def bump (off : FVec Ideal S1x64 .f32) (ch : FVec Ideal S512x64 .f32) : FVec Ideal S1x64 .f32 :=
  addf (F := Ideal) off (shapeCast S1x64 (multiReduction (F := Ideal) .add [0] S64 ch 0x00000000#32 reduces_S512x64_S64 (.inl rfl) rfl) shapeCasts_S64_S1x64)

/-- The counts before a chunk. -/
def offs (ch : ℕ → FVec Ideal S512x64 .f32) : ℕ → FVec Ideal S1x64 .f32
  | 0 => k0_pay19 (F := Ideal)
  | n + 1 => bump (offs ch n) (ch n)

/-- The chunks of the table of kept tokens. -/
def chunks (v : FVec Ideal S8192x64 .f32) : ℕ → FVec Ideal S512x64 .f32
  | 0 => k0_pay20 v
  | 1 => k0_pay23 v
  | 2 => k0_pay26 v
  | 3 => k0_pay29 v
  | 4 => k0_pay33 v
  | 5 => k0_pay36 v
  | 6 => k0_pay39 v
  | 7 => k0_pay42 v
  | 8 => k0_pay46 v
  | 9 => k0_pay49 v
  | 10 => k0_pay52 v
  | 11 => k0_pay55 v
  | 12 => k0_pay58 v
  | 13 => k0_pay61 v
  | 14 => k0_pay64 v
  | _ => extractStridedSlice S512x64 ![7680, 0] v slices_S8192x64_o7680_0_S512x64

/-- One entry of a chunk's places. -/
theorem cnt_apply (off : FVec Ideal S1x64 .f32) (ch : FVec Ideal S512x64 .f32) (i : Fin 512) :
    (cnt off ch (ix2 i 0) : EReal) = ∑ e : Fin 64, ch (ix2 i e) * ((∑ j : Fin 512, FloatOps.sitofp (F := Ideal) FTy.f32
      (BitVec.setWidth 32 (IntOp.cmpi .sge (BitVec.ofNat 32 i.val) (BitVec.ofNat 32 j.val))) * ch (ix2 j e)) + off (ix2 0 e) - 1) := by
  pointwise [cnt, k0_pay18]

/-- One entry of the counts. -/
theorem bump_apply (off : FVec Ideal S1x64 .f32) (ch : FVec Ideal S512x64 .f32) (e : Fin 64) :
    (bump off ch (ix2 0 e) : EReal) = off (ix2 0 e) + ∑ j : Fin 512, ch (ix2 j e) := by
  pointwise [bump]

/-- A chunk's entry is the table's. -/
theorem chunk_apply (v : FVec Ideal S8192x64 .f32) (n : Fin 16) (i : Fin 512) (e : Fin 64) :
    chunks v n.val (ix2 i e) = v (ix2 ⟨512 * n.val + i.val, by omega⟩ e) := by
  fin_cases n <;> pointwise [chunks, k0_pay20, k0_pay23, k0_pay26, k0_pay29, k0_pay33, k0_pay36, k0_pay39, k0_pay42, k0_pay46, k0_pay49, k0_pay52,
    k0_pay55, k0_pay58, k0_pay61, k0_pay64]

/-- A comparison of two small numbers as a number. -/
theorem tri_apply (i j : Fin 512) : (FloatOps.sitofp (F := Ideal) FTy.f32
      (BitVec.setWidth 32 (IntOp.cmpi .sge (BitVec.ofNat 32 i.val) (BitVec.ofNat 32 j.val))) : EReal) = (((if j ≤ i then 1 else 0 : ℝ)) : EReal) := by
  have h : IntOp.cmpi .sge (BitVec.ofNat 32 i.val) (BitVec.ofNat 32 j.val) = if j ≤ i then 1#1 else 0#1 :=
    (KSel.sle_ofNat (a := j.val) (b := i.val) (by omega) (by omega)).trans rfl
  rw [h]
  split
  · show (((BitVec.setWidth 32 1#1).toInt : ℝ) : EReal) = _
    norm_num
  · show (((BitVec.setWidth 32 0#1).toInt : ℝ) : EReal) = _
    norm_num

variable (P : Fin 64 → ℕ → Prop)

open scoped Classical in
/-- A sum of marks over a chunk counts. -/
theorem sum_marks (p : ℕ → Prop) (N : ℕ) : ∑ j : Fin N, ((if p j.val then 1 else 0 : ℝ)) = (Nat.count p N : ℝ) := by
  rw [Fin.sum_univ_eq_sum_range (fun j => (if p j then 1 else 0 : ℝ)), Finset.sum_boole, Nat.count_eq_card_filter_range]

open scoped Classical in
/-- A sum of marks up to a row counts. -/
theorem sum_marks_le (p : ℕ → Prop) (i : Fin 512) :
    ∑ j : Fin 512, ((if j ≤ i then 1 else 0 : ℝ)) * (if p j.val then 1 else 0) = (Nat.count p (i.val + 1) : ℝ) := by
  have h : ∀ j : Fin 512, ((if j ≤ i then 1 else 0 : ℝ)) * (if p j.val then 1 else 0) = if (j.val ≤ i.val ∧ p j.val) then 1 else 0 := by
    intro j
    by_cases h1 : j.val ≤ i.val <;> by_cases h2 : p j.val <;> simp [h1, h2, Fin.le_def]
  refine (Finset.sum_congr rfl fun j _ => h j).trans ?_
  refine (Eq.trans (Finset.sum_congr rfl fun j _ => ?_) (sum_marks (fun j => j ≤ i.val ∧ p j) 512)).trans ?_
  · by_cases hj : j.val ≤ i.val ∧ p j.val <;> simp [hj]
  rw [Nat.count_eq_card_filter_range, Nat.count_eq_card_filter_range]
  congr 2
  ext j
  simp only [Finset.mem_filter, Finset.mem_range]
  have := i.isLt
  constructor
  · rintro ⟨_, h1, h2⟩; exact ⟨by omega, h2⟩
  · rintro ⟨h1, h2⟩; exact ⟨by omega, by omega, h2⟩

open scoped Classical in
/-- The counts before a chunk count the marks before it. -/
theorem offs_apply (ch : ℕ → FVec Ideal S512x64 .f32) (M : ℕ)
    (hch : ∀ n < M, ∀ (j : Fin 512) e, (ch n (ix2 j e) : EReal) = (((if P e (512 * n + j.val) then 1 else 0 : ℝ)) : EReal)) :
    ∀ n ≤ M, ∀ e, (offs ch n (ix2 0 e) : EReal) = ((Nat.count (P e) (512 * n) : ℝ) : EReal) := by
  intro n
  induction n with
  | zero =>
    intro _ e
    show (k0_pay19 (F := Ideal) (ix2 0 e) : EReal) = _
    pointwise [k0_pay19]
    simp
  | succ n ih =>
    intro hn e
    show (bump (offs ch n) (ch n) (ix2 0 e) : EReal) = _
    rw [bump_apply, ih (by omega) e, Finset.sum_congr rfl fun j _ => hch n (by omega) j e, ← Tok.coe_sum, ← EReal.coe_add,
      sum_marks (fun j => P e (512 * n + j)) 512, Nat.mul_succ, Nat.count_add]
    push_cast
    rfl

open scoped Classical in
/-- A chunk's places count the marks before. -/
theorem place_apply (off : FVec Ideal S1x64 .f32) (ch : FVec Ideal S512x64 .f32) (b : ℕ)
    (hch : ∀ (j : Fin 512) e, (ch (ix2 j e) : EReal) = (((if P e (b + j.val) then 1 else 0 : ℝ)) : EReal))
    (hoff : ∀ e, (off (ix2 0 e) : EReal) = ((Nat.count (P e) b : ℝ) : EReal)) (i : Fin 512) (k : Fin 64) (hk : ∀ e, P e (b + i.val) → k = e) :
    (cnt off ch (ix2 i 0) : EReal) = (((if P k (b + i.val) then Nat.count (P k) (b + i.val) else 0 : ℕ) : ℝ) : EReal) := by
  have h : ∀ e : Fin 64, ch (ix2 i e) * ((∑ j : Fin 512, FloatOps.sitofp (F := Ideal) FTy.f32
      (BitVec.setWidth 32 (IntOp.cmpi .sge (BitVec.ofNat 32 i.val) (BitVec.ofNat 32 j.val))) * ch (ix2 j e)) + off (ix2 0 e) - 1)
      = (((if P e (b + i.val) then (Nat.count (P e) (b + i.val) : ℝ) else 0 : ℝ)) : EReal) := by
    intro e
    have hs : (∑ j : Fin 512, FloatOps.sitofp (F := Ideal) FTy.f32
        (BitVec.setWidth 32 (IntOp.cmpi .sge (BitVec.ofNat 32 i.val) (BitVec.ofNat 32 j.val))) * ch (ix2 j e) : EReal)
        = ((Nat.count (fun j => P e (b + j)) (i.val + 1) : ℝ) : EReal) := by
      rw [← sum_marks_le (fun j => P e (b + j)) i, Tok.coe_sum]
      refine Finset.sum_congr rfl fun j _ => ?_
      rw [tri_apply, hch, EReal.coe_mul]
    rw [hs, hch, hoff]
    rw [show (1 : EReal) = ((1 : ℝ) : EReal) from rfl, ← EReal.coe_add, ← EReal.coe_sub, ← EReal.coe_mul]
    congr 1
    have hc : (Nat.count (fun j => P e (b + j)) (i.val + 1) : ℝ) + (Nat.count (P e) b : ℝ)
        = (Nat.count (P e) (b + i.val) : ℝ) + (if P e (b + i.val) then 1 else 0 : ℝ) := by
      have h1 := Nat.count_add (P e) b (i.val + 1)
      have h2 := Nat.count_succ (P e) (b + i.val)
      have h3 : Nat.count (fun j => P e (b + j)) (i.val + 1) + Nat.count (P e) b = Nat.count (P e) (b + i.val) + (if P e (b + i.val) then 1 else 0) := by
        rw [← h2, add_comm, ← h1]; rfl
      exact_mod_cast h3
    rw [hc]
    by_cases hp : P e (b + i.val)
    · simp [hp]
    · simp [hp]
  rw [cnt_apply, Finset.sum_congr rfl fun e _ => h e, ← Tok.coe_sum]
  congr 1
  refine (Finset.sum_eq_single k ?_ fun h => absurd (Finset.mem_univ _) h).trans ?_
  · intro e _ he
    exact if_neg fun hp => he (hk e hp).symm
  · split <;> simp

end Cert.Proof.KLoc

end
-- ==== Proof.KPlace.lean ====
/- The places and the marks of kept tokens that the routing kernel leaves. -/
module

public import proofs.«01_k».proof.Proof.KLoc
public import Idealize.ShloMosaic.Lib.Pipeline.Value

@[expose] public section

set_option maxRecDepth 16384

noncomputable section

namespace Cert.Proof.KLoc

open Idealize.ShloMosaic Cert.KernelIdeal Cert.KernelIdeal.Gen

/-- The places in all chunks, one chunk below the other. -/
def tower (ch : ℕ → FVec Ideal S512x64 .f32) : FVec Ideal S8192x1 .f32 :=
  concatenate S8192x1 0 (List.ofFn fun n : Fin 16 => (⟨S512x1, cnt (offs ch n.val) (ch n.val)⟩ : (s : Shape) × FVec Ideal s .f32))
    concatenates_S512x1_S512x1_S512x1_S512x1_S512x1_S512x1_S512x1_S512x1_S512x1_S512x1_S512x1_S512x1_S512x1_S512x1_S512x1_S512x1_S8192x1_d0

/-- The sixteen chunks as the kernel writes them. -/
theorem pay69_eq (ch : ℕ → FVec Ideal S512x64 .f32) (z : FVec Ideal S512x64 .f32)
    (hz : cnt (offs ch 15) (ch 15)
      = shapeCast S512x1 (multiReduction (F := Ideal) .add [1] S512 z 0x00000000#32 reduces_S512x64_S512 (.inl rfl) rfl) shapeCasts_S512_S512x1) :
    k0_pay69 (F := Ideal) (cnt (offs ch 0) (ch 0)) (cnt (offs ch 1) (ch 1)) (cnt (offs ch 2) (ch 2)) (cnt (offs ch 3) (ch 3))
      (cnt (offs ch 4) (ch 4)) (cnt (offs ch 5) (ch 5)) (cnt (offs ch 6) (ch 6)) (cnt (offs ch 7) (ch 7))
      (cnt (offs ch 8) (ch 8)) (cnt (offs ch 9) (ch 9)) (cnt (offs ch 10) (ch 10)) (cnt (offs ch 11) (ch 11))
      (cnt (offs ch 12) (ch 12)) (cnt (offs ch 13) (ch 13)) (cnt (offs ch 14) (ch 14)) z = fptosi (F := Ideal) 32 (tower ch) := by
  dsimp only [k0_pay69]
  rw [← hz]
  rfl

/-- One chunk more, in the chain of counts. -/
theorem step {ch : ℕ → FVec Ideal S512x64 .f32} {o : FVec Ideal S1x64 .f32} {q : FVec Ideal S512x64 .f32} (n : ℕ) (ho : o = offs ch n) (hq : q = ch n) :
    bump o q = offs ch (n + 1) := by
  subst ho hq
  rfl

/-- The kernel's sixteen chunks, chained, are the tower. -/
theorem pays_eq (v : FVec Ideal S8192x64 .f32) :
    k0_pay69 (F := Ideal) (k0_pay21 v k0_pay18)
      (k0_pay24 v k0_pay18)
      (k0_pay27 v k0_pay18)
      (k0_pay31 (k0_pay30 v k0_pay18))
      (k0_pay34 v k0_pay18 (k0_pay28 v) (k0_pay29 v))
      (k0_pay37 v k0_pay18 (k0_pay28 v) (k0_pay29 v))
      (k0_pay40 v k0_pay18 (k0_pay28 v) (k0_pay29 v))
      (k0_pay44 (k0_pay42 v) (k0_pay43 v k0_pay18 (k0_pay28 v) (k0_pay29 v)) (Scalar.ofBits (F := Ideal) .f32 0x3F800000#32))
      (k0_pay47 v k0_pay18 (k0_pay41 v (k0_pay28 v) (k0_pay29 v)) (k0_pay42 v))
      (k0_pay50 v k0_pay18 (k0_pay41 v (k0_pay28 v) (k0_pay29 v)) (k0_pay42 v))
      (k0_pay53 v k0_pay18 (k0_pay41 v (k0_pay28 v) (k0_pay29 v)) (k0_pay42 v))
      (k0_pay56 k0_pay18 (k0_pay54 v (k0_pay41 v (k0_pay28 v) (k0_pay29 v)) (k0_pay42 v)) (k0_pay55 v) (constant (F := Ideal) S512x64 .f32 0x00000000#32))
      (k0_pay59 v k0_pay18 (k0_pay54 v (k0_pay41 v (k0_pay28 v) (k0_pay29 v)) (k0_pay42 v)) (k0_pay55 v))
      (k0_pay62 v k0_pay18 (k0_pay54 v (k0_pay41 v (k0_pay28 v) (k0_pay29 v)) (k0_pay42 v)) (k0_pay55 v))
      (k0_pay65 v k0_pay18 (k0_pay54 v (k0_pay41 v (k0_pay28 v) (k0_pay29 v)) (k0_pay42 v)) (k0_pay55 v))
      (k0_pay68 (extractStridedSlice S512x64 ![7680, 0] v slices_S8192x64_o7680_0_S512x64) (k0_pay67 k0_pay18 (k0_pay63 v (k0_pay54 v (k0_pay41 v (k0_pay28 v) (k0_pay29 v)) (k0_pay42 v)) (k0_pay55 v)) (k0_pay66 v) (extractStridedSlice S512x64 ![7680, 0] v slices_S8192x64_o7680_0_S512x64)))
      = fptosi (F := Ideal) 32 (tower (chunks v)) := by
  have o0 : k0_pay19 (F := Ideal) = offs (chunks v) 0 := rfl
  have o1 : k0_pay22 v = offs (chunks v) 1 := (rfl : _ = bump (k0_pay19 (F := Ideal)) (k0_pay20 v)).trans (step 0 o0 rfl)
  have o2 : k0_pay25 v = offs (chunks v) 2 := (rfl : _ = bump (k0_pay22 v) (k0_pay23 v)).trans (step 1 o1 rfl)
  have o3 : k0_pay28 v = offs (chunks v) 3 := (rfl : _ = bump (k0_pay25 v) (k0_pay26 v)).trans (step 2 o2 rfl)
  have o4 : k0_pay32 (k0_pay28 v) (k0_pay29 v) = offs (chunks v) 4 := (rfl : _ = bump (k0_pay28 v) (k0_pay29 v)).trans (step 3 o3 rfl)
  have o5 : k0_pay35 v (k0_pay28 v) (k0_pay29 v) = offs (chunks v) 5 := (rfl : _ = bump (k0_pay32 (k0_pay28 v) (k0_pay29 v)) (k0_pay33 v)).trans (step 4 o4 rfl)
  have o6 : k0_pay38 v (k0_pay28 v) (k0_pay29 v) = offs (chunks v) 6 := (rfl : _ = bump (k0_pay35 v (k0_pay28 v) (k0_pay29 v)) (k0_pay36 v)).trans (step 5 o5 rfl)
  have o7 : k0_pay41 v (k0_pay28 v) (k0_pay29 v) = offs (chunks v) 7 := (rfl : _ = bump (k0_pay38 v (k0_pay28 v) (k0_pay29 v)) (k0_pay39 v)).trans (step 6 o6 rfl)
  have o8 : k0_pay45 (k0_pay41 v (k0_pay28 v) (k0_pay29 v)) (k0_pay42 v) = offs (chunks v) 8 := (rfl : _ = bump (k0_pay41 v (k0_pay28 v) (k0_pay29 v)) (k0_pay42 v)).trans (step 7 o7 rfl)
  have o9 : k0_pay48 v (k0_pay41 v (k0_pay28 v) (k0_pay29 v)) (k0_pay42 v) = offs (chunks v) 9 := (rfl : _ = bump (k0_pay45 (k0_pay41 v (k0_pay28 v) (k0_pay29 v)) (k0_pay42 v)) (k0_pay46 v)).trans (step 8 o8 rfl)
  have o10 : k0_pay51 v (k0_pay41 v (k0_pay28 v) (k0_pay29 v)) (k0_pay42 v) = offs (chunks v) 10 := (rfl : _ = bump (k0_pay48 v (k0_pay41 v (k0_pay28 v) (k0_pay29 v)) (k0_pay42 v)) (k0_pay49 v)).trans (step 9 o9 rfl)
  have o11 : k0_pay54 v (k0_pay41 v (k0_pay28 v) (k0_pay29 v)) (k0_pay42 v) = offs (chunks v) 11 := (rfl : _ = bump (k0_pay51 v (k0_pay41 v (k0_pay28 v) (k0_pay29 v)) (k0_pay42 v)) (k0_pay52 v)).trans (step 10 o10 rfl)
  have o12 : k0_pay57 (k0_pay54 v (k0_pay41 v (k0_pay28 v) (k0_pay29 v)) (k0_pay42 v)) (k0_pay55 v) = offs (chunks v) 12 := (rfl : _ = bump (k0_pay54 v (k0_pay41 v (k0_pay28 v) (k0_pay29 v)) (k0_pay42 v)) (k0_pay55 v)).trans (step 11 o11 rfl)
  have o13 : k0_pay60 v (k0_pay54 v (k0_pay41 v (k0_pay28 v) (k0_pay29 v)) (k0_pay42 v)) (k0_pay55 v) = offs (chunks v) 13 := (rfl : _ = bump (k0_pay57 (k0_pay54 v (k0_pay41 v (k0_pay28 v) (k0_pay29 v)) (k0_pay42 v)) (k0_pay55 v)) (k0_pay58 v)).trans (step 12 o12 rfl)
  have o14 : k0_pay63 v (k0_pay54 v (k0_pay41 v (k0_pay28 v) (k0_pay29 v)) (k0_pay42 v)) (k0_pay55 v) = offs (chunks v) 14 := (rfl : _ = bump (k0_pay60 v (k0_pay54 v (k0_pay41 v (k0_pay28 v) (k0_pay29 v)) (k0_pay42 v)) (k0_pay55 v)) (k0_pay61 v)).trans (step 13 o13 rfl)
  have o15 : bump (k0_pay63 v (k0_pay54 v (k0_pay41 v (k0_pay28 v) (k0_pay29 v)) (k0_pay42 v)) (k0_pay55 v)) (k0_pay64 v) = offs (chunks v) 15 := step 14 o14 rfl
  have p0 : k0_pay21 v k0_pay18 = cnt (offs (chunks v) 0) (chunks v 0) := (rfl : _ = cnt (k0_pay19 (F := Ideal)) (k0_pay20 v)).trans (congrArg (cnt · _) o0)
  have p1 : k0_pay24 v k0_pay18 = cnt (offs (chunks v) 1) (chunks v 1) := (rfl : _ = cnt (k0_pay22 v) (k0_pay23 v)).trans (congrArg (cnt · _) o1)
  have p2 : k0_pay27 v k0_pay18 = cnt (offs (chunks v) 2) (chunks v 2) := (rfl : _ = cnt (k0_pay25 v) (k0_pay26 v)).trans (congrArg (cnt · _) o2)
  have p3 : k0_pay31 (k0_pay30 v k0_pay18) = cnt (offs (chunks v) 3) (chunks v 3) := (rfl : _ = cnt (k0_pay28 v) (k0_pay29 v)).trans (congrArg (cnt · _) o3)
  have p4 : k0_pay34 v k0_pay18 (k0_pay28 v) (k0_pay29 v) = cnt (offs (chunks v) 4) (chunks v 4) := (rfl : _ = cnt (k0_pay32 (k0_pay28 v) (k0_pay29 v)) (k0_pay33 v)).trans (congrArg (cnt · _) o4)
  have p5 : k0_pay37 v k0_pay18 (k0_pay28 v) (k0_pay29 v) = cnt (offs (chunks v) 5) (chunks v 5) := (rfl : _ = cnt (k0_pay35 v (k0_pay28 v) (k0_pay29 v)) (k0_pay36 v)).trans (congrArg (cnt · _) o5)
  have p6 : k0_pay40 v k0_pay18 (k0_pay28 v) (k0_pay29 v) = cnt (offs (chunks v) 6) (chunks v 6) := (rfl : _ = cnt (k0_pay38 v (k0_pay28 v) (k0_pay29 v)) (k0_pay39 v)).trans (congrArg (cnt · _) o6)
  have p7 : k0_pay44 (k0_pay42 v) (k0_pay43 v k0_pay18 (k0_pay28 v) (k0_pay29 v)) (Scalar.ofBits (F := Ideal) .f32 0x3F800000#32) = cnt (offs (chunks v) 7) (chunks v 7) := (rfl : _ = cnt (k0_pay41 v (k0_pay28 v) (k0_pay29 v)) (k0_pay42 v)).trans (congrArg (cnt · _) o7)
  have p8 : k0_pay47 v k0_pay18 (k0_pay41 v (k0_pay28 v) (k0_pay29 v)) (k0_pay42 v) = cnt (offs (chunks v) 8) (chunks v 8) := (rfl : _ = cnt (k0_pay45 (k0_pay41 v (k0_pay28 v) (k0_pay29 v)) (k0_pay42 v)) (k0_pay46 v)).trans (congrArg (cnt · _) o8)
  have p9 : k0_pay50 v k0_pay18 (k0_pay41 v (k0_pay28 v) (k0_pay29 v)) (k0_pay42 v) = cnt (offs (chunks v) 9) (chunks v 9) := (rfl : _ = cnt (k0_pay48 v (k0_pay41 v (k0_pay28 v) (k0_pay29 v)) (k0_pay42 v)) (k0_pay49 v)).trans (congrArg (cnt · _) o9)
  have p10 : k0_pay53 v k0_pay18 (k0_pay41 v (k0_pay28 v) (k0_pay29 v)) (k0_pay42 v) = cnt (offs (chunks v) 10) (chunks v 10) := (rfl : _ = cnt (k0_pay51 v (k0_pay41 v (k0_pay28 v) (k0_pay29 v)) (k0_pay42 v)) (k0_pay52 v)).trans (congrArg (cnt · _) o10)
  have p11 : k0_pay56 k0_pay18 (k0_pay54 v (k0_pay41 v (k0_pay28 v) (k0_pay29 v)) (k0_pay42 v)) (k0_pay55 v) (constant (F := Ideal) S512x64 .f32 0x00000000#32) = cnt (offs (chunks v) 11) (chunks v 11) := (rfl : _ = cnt (k0_pay54 v (k0_pay41 v (k0_pay28 v) (k0_pay29 v)) (k0_pay42 v)) (k0_pay55 v)).trans (congrArg (cnt · _) o11)
  have p12 : k0_pay59 v k0_pay18 (k0_pay54 v (k0_pay41 v (k0_pay28 v) (k0_pay29 v)) (k0_pay42 v)) (k0_pay55 v) = cnt (offs (chunks v) 12) (chunks v 12) := (rfl : _ = cnt (k0_pay57 (k0_pay54 v (k0_pay41 v (k0_pay28 v) (k0_pay29 v)) (k0_pay42 v)) (k0_pay55 v)) (k0_pay58 v)).trans (congrArg (cnt · _) o12)
  have p13 : k0_pay62 v k0_pay18 (k0_pay54 v (k0_pay41 v (k0_pay28 v) (k0_pay29 v)) (k0_pay42 v)) (k0_pay55 v) = cnt (offs (chunks v) 13) (chunks v 13) := (rfl : _ = cnt (k0_pay60 v (k0_pay54 v (k0_pay41 v (k0_pay28 v) (k0_pay29 v)) (k0_pay42 v)) (k0_pay55 v)) (k0_pay61 v)).trans (congrArg (cnt · _) o13)
  have p14 : k0_pay65 v k0_pay18 (k0_pay54 v (k0_pay41 v (k0_pay28 v) (k0_pay29 v)) (k0_pay42 v)) (k0_pay55 v) = cnt (offs (chunks v) 14) (chunks v 14) := (rfl : _ = cnt (k0_pay63 v (k0_pay54 v (k0_pay41 v (k0_pay28 v) (k0_pay29 v)) (k0_pay42 v)) (k0_pay55 v)) (k0_pay64 v)).trans (congrArg (cnt · _) o14)
  rw [p0, p1, p2, p3, p4, p5, p6, p7, p8, p9, p10, p11, p12, p13, p14]
  refine pay69_eq (chunks v) _ ?_
  rw [← o15]
  rfl

/-- One entry of the tower. -/
theorem tower_apply (ch : ℕ → FVec Ideal S512x64 .f32) (n : Fin 16) (i : Fin 512) :
    tower ch (ix2 (⟨512 * n.val + i.val, by omega⟩ : Fin 8192) 0) = cnt (offs ch n.val) (ch n.val) (ix2 i 0) := by
  refine concatenate_ofFn_apply (t := S8192x1) (s₁ := S512x1) 0 (fun n : Fin 16 => cnt (offs ch n.val) (ch n.val)) _ rfl 512 rfl _ n ?_ _ ?_ ?_
  · show (512 * n.val + i.val) / 512 = n.val
    omega
  · show i.val = (512 * n.val + i.val) % 512
    omega
  · intro b hb
    fin_cases b
    · exact absurd rfl hb
    · rfl

/-- A small number, rounded to a word. -/
theorem fptosi_ofNat {k : ℕ} (h : k ≤ 8192) : FloatOps.fptosi (F := Ideal) (φ := .f32) 32 (((k : ℝ) : EReal)) = BitVec.ofNat 32 k := by
  show BitVec.ofInt 32 (max _ (min _ (if (0 : ℝ) ≤ (k : ℝ) then ⌊(k : ℝ)⌋ else ⌈(k : ℝ)⌉))) = _
  rw [if_pos (Nat.cast_nonneg k), Int.floor_natCast, min_eq_right (by norm_num; omega), max_eq_right (by norm_num)]
  exact BitVec.ofInt_natCast 32 k

/-- A token, by its number, that an expert keeps. -/
def Mark (K : Fin 64 → Fin 8192 → Prop) (e : Fin 64) (t : ℕ) : Prop := ∃ h : t < 8192, K e ⟨t, h⟩

open scoped Classical in
/-- The place in numbers. -/
theorem loc_count (pk : Fin 8192 → Fin 64) (K : Fin 64 → Fin 8192 → Prop) (s : Fin 8192) :
    RPos.loc pk K s = if Mark K (pk s) s.val then Nat.count (Mark K (pk s)) s.val else 0 := by
  have he : Mark K (pk s) s.val ↔ K (pk s) s := ⟨fun ⟨_, h⟩ => h, fun h => ⟨s.isLt, h⟩⟩
  rw [RPos.loc]
  by_cases hk : K (pk s) s
  · rw [if_pos hk, if_pos (he.2 hk), Nat.count_eq_card_filter_range]
    refine Finset.card_bij (fun t _ => t.val) ?_ ?_ ?_
    · intro t ht
      simp only [Finset.mem_filter, Finset.mem_univ, true_and, Finset.mem_range] at ht ⊢
      exact ⟨ht.1, t.isLt, ht.2⟩
    · intro a _ b _ h
      exact Fin.ext h
    · intro t ht
      simp only [Finset.mem_filter, Finset.mem_range] at ht
      obtain ⟨h1, h2, h3⟩ := ht
      exact ⟨⟨t, h2⟩, by simp only [Finset.mem_filter, Finset.mem_univ, true_and]; exact ⟨h1, h3⟩, rfl⟩
  · rw [if_neg hk, if_neg fun h => hk (he.1 h)]

open scoped Classical in
/-- A place is at most the number of tokens. -/
theorem loc_le (pk : Fin 8192 → Fin 64) (K : Fin 64 → Fin 8192 → Prop) (s : Fin 8192) : RPos.loc pk K s ≤ 8192 := by
  rw [RPos.loc]
  split
  · exact (Finset.card_le_univ _).trans (by simp)
  · exact Nat.zero_le _

open scoped Classical in
/-- The kernel's place of a token is the reference's. -/
theorem loc_apply (pk : Fin 8192 → Fin 64) (K : Fin 64 → Fin 8192 → Prop) (hK : ∀ e s, K e s → pk s = e) (v : FVec Ideal S8192x64 .f32)
    (hv : ∀ s e, (v (ix2 s e) : EReal) = (((if K e s then 1 else 0 : ℝ)) : EReal)) (s : Fin 8192) :
    fptosi (F := Ideal) 32 (tower (chunks v)) (ix2 s 0) = BitVec.ofNat 32 (RPos.loc pk K s) := by
  have hch : ∀ n < 16, ∀ (j : Fin 512) e, (chunks v n (ix2 j e) : EReal) = (((if Mark K e (512 * n + j.val) then 1 else 0 : ℝ)) : EReal) := by
    intro n hn j e
    rw [chunk_apply v ⟨n, hn⟩ j e, hv]
    have hb : 512 * n + j.val < 8192 := by omega
    have he : Mark K e (512 * n + j.val) ↔ K e ⟨512 * n + j.val, hb⟩ := ⟨fun ⟨_, h⟩ => h, fun h => ⟨hb, h⟩⟩
    by_cases hk : K e ⟨512 * n + j.val, hb⟩
    · rw [if_pos hk, if_pos (he.2 hk)]
    · rw [if_neg hk, if_neg fun h => hk (he.1 h)]
  obtain ⟨n, i, rfl⟩ : ∃ (n : Fin 16) (i : Fin 512), s = ⟨512 * n.val + i.val, by omega⟩ :=
    ⟨⟨s.val / 512, by omega⟩, ⟨s.val % 512, by omega⟩, Fin.ext (by show s.val = 512 * (s.val / 512) + s.val % 512; omega)⟩
  have hp := place_apply (Mark K) (offs (chunks v) n.val) (chunks v n.val) (512 * n.val) (hch n.val n.isLt)
    (offs_apply (Mark K) (chunks v) 16 hch n.val n.isLt.le) i (pk ⟨512 * n.val + i.val, by omega⟩) (fun e ⟨h, he⟩ => hK e _ he)
  have hl := loc_count pk K ⟨512 * n.val + i.val, by omega⟩
  have hle := loc_le pk K ⟨512 * n.val + i.val, by omega⟩
  show FloatOps.fptosi (F := Ideal) (φ := .f32) 32 (tower (chunks v) (ix2 _ 0)) = _
  rw [tower_apply, hp, ← fptosi_ofNat hle, hl]

open scoped Classical in
/-- The marks as numbers. -/
theorem marks_apply (x : Vec Ideal S8192x768 .f32) (w : Vec Ideal S64x768 .f32) (r : Vec Ideal S8192x64 .i32) (lo : IVec S1x64 32)
    (K : Fin 64 → Fin 8192 → Prop) (h : ∀ s e, k0_pay16 x w r lo (ix2 s e) = if K e s then 1#1 else 0#1) (s : Fin 8192) (e : Fin 64) :
    (k0_pay17 x w r lo (ix2 s e) : EReal) = (((if K e s then 1 else 0 : ℝ)) : EReal) := by
  show (((BitVec.setWidth 32 (k0_pay16 x w r lo (ix2 s e))).toInt : ℝ) : EReal) = _
  rw [h]
  split <;> norm_num

end Cert.Proof.KLoc

namespace Cert.Proof.Route

open Idealize.ShloMosaic Cert.KernelIdeal Cert.KernelIdeal.Gen Cert.Proof.KLoc

variable (V : (c : Dev nD) → (b : Ref sig .tc) → Buf (Elt Ideal) (c.tc.loc b)) (c : Dev nD) (t : Fin cfg0.N)

/-- The search's lower end. -/
def low (x : Vec Ideal S8192x768 .f32) (w : Vec Ideal S64x768 .f32) (r : Vec Ideal S8192x64 .i32) : IVec S1x64 32 :=
  ((List.finRange k0_t1_loop.trips).foldl (fun a _ => (k0_pay14 x w r a.1 a.2, k0_pay15 x w r a.1 a.2)) (k0_pay10, k0_pay11)).1

variable (m0 : Memref sig .tc .vmem S8192x768 .f32) (h0 : m0.IsWhole) (m1 : Memref sig .tc .vmem S64x768 .f32) (h1 : m1.IsWhole)
  (m2 : Memref sig .tc .vmem S8192x64 .i32) (h2 : m2.IsWhole) (x : Vec Ideal S8192x768 .f32) (w : Vec Ideal S64x768 .f32) (r : Vec Ideal S8192x64 .i32)

/-- The run's lower end. -/
theorem run_low : (kernelRun0_A.sl.r (F := Ideal) c m0 h0 m1 h1 m2 h2 x w r).1 = low x w r := by
  rw [kernelRun0_A.sl.r, low, ← Scf.fold_eq, readAt_whole, readAt_whole, readAt_whole]

/-- The run's table of kept tokens. -/
theorem run_kept : kernelRun0_A.sl.r_5 (F := Ideal) c m0 h0 m1 h1 m2 h2 x w r = k0_pay16 x w r (low x w r) := by
  rw [kernelRun0_A.sl.r_5, run_low, readAt_whole, readAt_whole, readAt_whole]

/-- The run's table of kept tokens, as numbers. -/
theorem run_marks : kernelRun0_A.sl.r_6 (F := Ideal) c m0 h0 m1 h1 m2 h2 x w r = k0_pay17 x w r (low x w r) := by
  rw [kernelRun0_A.sl.r_6, run_low, readAt_whole, readAt_whole, readAt_whole]

/-- Whether each token is kept. -/
theorem out_sel : (outsAt0 V c t).2.2.2.1
    = k0_pay70 (k0_pay16 (iblk0 V c 0 t) (iblk0 V c 1 t) (iblk0 V c 2 t) (low (iblk0 V c 0 t) (iblk0 V c 1 t) (iblk0 V c 2 t))) := by
  dsimp only [outsAt0, out0_A_6, kernelRun0_A]
  refine (View.read_writes_full _ _ _ _ _).trans ?_
  exact congrArg k0_pay70 (run_kept c _ _ _ _ _ _ _ _ _)

/-- The places of the kept tokens. -/
theorem out_loc : (outsAt0 V c t).2.1 = fptosi (F := Ideal) 32 (tower (chunks
    (k0_pay17 (iblk0 V c 0 t) (iblk0 V c 1 t) (iblk0 V c 2 t) (low (iblk0 V c 0 t) (iblk0 V c 1 t) (iblk0 V c 2 t))))) := by
  dsimp only [outsAt0, out0_A_4, kernelRun0_A]
  refine (View.read_writes_full _ _ _ _ _).trans ?_
  dsimp only [kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.cst_41, kernelRun0_A.sl.cst_56, kernelRun0_A.sl.v229, kernelRun0_A.sl.v226, kernelRun0_A.sl.v223]
  rw [run_marks]
  generalize k0_pay17 (iblk0 V c 0 t) (iblk0 V c 1 t) (iblk0 V c 2 t) (low (iblk0 V c 0 t) (iblk0 V c 1 t) (iblk0 V c 2 t)) = v
  exact pays_eq v

end Cert.Proof.Route

end
-- ==== Proof.KComb.lean ====
/- What the idealized kernel leaves in its two large results. -/
module

public import proofs.«01_k».proof.Proof.KVal
public import proofs.«01_k».proof.Proof.KPlace

@[expose] public section

set_option maxRecDepth 16384

noncomputable section

namespace Cert.Proof.KVal

open Idealize.ShloMosaic Idealize.ShloMosaic.TcCoe Idealize.ShloMosaic.StableHlo Cert.KernelIdeal Cert.KernelIdeal.Gen
open Idealize.ShloMosaic.Pipeline (Dat)

/-- One entry of the combining tensor: the gate where the expert and the place are the token's and the token is kept. -/
def entry (p l k : BitVec 32) (g : EReal) (e : Fin 64) (q : Fin 128) : EReal :=
  Scalar.select (IntOp.andi (IntOp.andi (IntOp.cmpi .eq (BitVec.ofNat 32 e.val) p) (IntOp.cmpi .eq (BitVec.ofNat 32 q.val) l)) (IntOp.cmpi .sgt k 0#32)) g 0

/-- The second launch's stored block, entry by entry. -/
theorem pay_entry (p l k : Vec Ideal S512x1 .i32) (g : Vec Ideal S512x1 .f32) (s : Fin 512) (e : Fin 64) (q : Fin 128) :
    (k1_pay1 (F := Ideal) p l k g (ix3 s e q) : EReal) = entry (p (ix2 s 0)) (l (ix2 s 0)) (k (ix2 s 0)) (g (ix2 s 0)) e q := by
  pointwise [k1_pay1, entry]

section Region1

variable (V : (c : Dev nD) → (b : Ref sig .tc) → Buf (Elt Ideal) (c.tc.loc b)) (c : Dev nD)

/-- Which block of the first column a step sees. -/
theorem ix1_0 : ∀ t : Fin cfg1.N, win1_0.index t = ![t.val, 0] := by decide +kernel
/-- Which block of the second column a step sees. -/
theorem ix1_1 : ∀ t : Fin cfg1.N, win1_1.index t = ![t.val, 0] := by decide +kernel
/-- Which block of the third column a step sees. -/
theorem ix1_2 : ∀ t : Fin cfg1.N, win1_2.index t = ![t.val, 0] := by decide +kernel
/-- Which block of the fourth column a step sees. -/
theorem ix1_3 : ∀ t : Fin cfg1.N, win1_3.index t = ![t.val, 0] := by decide +kernel
/-- Which block of the tensor a step writes. -/
theorem ix1_4 : ∀ t : Fin cfg1.N, win1_4.index t = ![t.val, 0, 0] := by decide +kernel

/-- There are sixteen steps. -/
theorem lt16 (t : Fin cfg1.N) : t.val < 16 := t.isLt

/-- The token of a row of a block. -/
def tok (t : Fin cfg1.N) (s : Fin 512) : Fin 8192 := ⟨t.val * 512 + s.val, by have := lt16 t; omega⟩

/-- A row of a block of the first column. -/
theorem row0 (t : Fin cfg1.N) (s : Fin 512) : iblk1 V c 0 t (ix2 s 0) = V c main_v191_0 (ix2 (tok t s) 0) := by
  blk_ext [iblk1, ix1_0 t]
  rfl
/-- A row of a block of the second column. -/
theorem row1 (t : Fin cfg1.N) (s : Fin 512) : iblk1 V c 1 t (ix2 s 0) = V c main_v191_1 (ix2 (tok t s) 0) := by
  blk_ext [iblk1, ix1_1 t]
  rfl
/-- A row of a block of the third column. -/
theorem row2 (t : Fin cfg1.N) (s : Fin 512) : iblk1 V c 2 t (ix2 s 0) = V c main_v191_2 (ix2 (tok t s) 0) := by
  blk_ext [iblk1, ix1_2 t]
  rfl
/-- A row of a block of the fourth column. -/
theorem row3 (t : Fin cfg1.N) (s : Fin 512) : iblk1 V c 3 t (ix2 s 0) = V c main_v191_3 (ix2 (tok t s) 0) := by
  blk_ext [iblk1, ix1_3 t]
  rfl

/-- Where an entry of a block stands in the tensor. -/
theorem emb_row (t : Fin cfg1.N) (s : Fin 512) (e : Fin 64) (q : Fin 128) :
    ((View.whole main_v192).slice (win1_4.rect t)).emb (ix3 s e q) = ix3 (tok t s) e q := by
  blk_ext [ix1_4 t]
  rfl

/-- The second launch leaves the tensor of entries. -/
theorem comb_arr : (dat1 V c).arrAt 4 cfg1.N = fun i : S8192x64x128.Idx =>
    entry (V c main_v191_0 (ix2 (i 0) 0)) (V c main_v191_1 (ix2 (i 0) 0)) (V c main_v191_3 (ix2 (i 0) 0)) (V c main_v191_2 (ix2 (i 0) 0)) (i 1) (i 2) := by
  refine (dat1 V c).arrAt_eq_of_covers 4 _ (by decide +kernel) fun t hf y => ?_
  blk_simp
  rw [after1_4]
  frame_out
  obtain ⟨s, e, q, rfl⟩ : ∃ (s : Fin 512) (e : Fin 64) (q : Fin 128), y = ix3 s e q := ⟨y 0, y 1, y 2, eq_ix3 y⟩
  rw [emb_row t s e q]
  refine (pay_entry _ _ _ _ s e q).trans ?_
  rw [row0, row1, row2, row3]
  rfl

end Region1

section Ends

variable (m : (ℓ : Loc nD τ sig) → Buf (Elt Ideal) ℓ) (ρ : Dev nD → PrngReg) (c : Dev nD)

/-- The combining tensor at the end. -/
theorem W7_comb (x : Vec Ideal S8192x768 .f32) (w : Vec Ideal S64x768 .f32) (r : Vec Ideal S8192x64 .i32)
    (hx : m ((c : Thread nD τ).loc main_arg0) = x) (hw : m ((c : Thread nD τ).loc main_arg1) = w) (hr : W4 m ρ c (Proc.devRef .tc main_v190) = r)
    (s : Fin 8192) (e : Fin 64) (q : Fin 128) :
    (W7 m ρ c (Proc.devRef .tc main_v192) (ix3 s e q) : EReal) =
      entry (k0_pay6 x w (ix2 s 0)) (fptosi (F := Ideal) 32 (KLoc.tower (KLoc.chunks (k0_pay17 x w r (Route.low x w r)))) (ix2 s 0))
        (k0_pay70 (k0_pay16 x w r (Route.low x w r)) (ix2 s 0)) (k0_pay71 (k0_pay4 x w) (ix2 s 0)) e q := by
  have hr' : V4 m ρ c main_v190 = r := hr
  have e0 : V5 m ρ c main_v191_0 = k0_pay6 x w := by
    rw [show V5 m ρ c main_v191_0 = _ from W5_arr m ρ c 3, arr_3, Route.out_idx, blk0, blk1, V4_arg0, V4_arg1, hx, hw]
  have e1 : V5 m ρ c main_v191_1 = fptosi (F := Ideal) 32 (KLoc.tower (KLoc.chunks (k0_pay17 x w r (Route.low x w r)))) := by
    rw [show V5 m ρ c main_v191_1 = _ from W5_arr m ρ c 4, arr_4, Route.out_loc, blk0, blk1, blk2, V4_arg0, V4_arg1, hx, hw, hr']
  have e2 : V5 m ρ c main_v191_2 = k0_pay71 (k0_pay4 x w) := by
    rw [show V5 m ρ c main_v191_2 = _ from W5_arr m ρ c 5, arr_5, Route.out_gval, blk0, blk1, V4_arg0, V4_arg1, hx, hw]
  have e3 : V5 m ρ c main_v191_3 = k0_pay70 (k0_pay16 x w r (Route.low x w r)) := by
    rw [show V5 m ρ c main_v191_3 = _ from W5_arr m ρ c 6, arr_6, Route.out_sel, blk0, blk1, blk2, V4_arg0, V4_arg1, hx, hw, hr']
  have h : W7 m ρ c (Proc.devRef .tc main_v192) = (dat1 (V5 m ρ) c).arrAt 4 cfg1.N :=
    (ssa2.arg (W6 m ρ c) (x := main_v192) (by decide)).trans (W6_arr m ρ c 4)
  rw [h, comb_arr, ← e0, ← e1, ← e2, ← e3]
  rfl

/-- The dispatching tensor at the end says where the combining one is not nought. -/
theorem W7_disp : W7 m ρ c (Proc.devRef .tc main_v195)
    = cmpf (F := Ideal) (φ := .f32) .une (W7 m ρ c (Proc.devRef .tc main_v192))
      (broadcastInDim S8192x64x128 ![] bcast_S_S8192x64x128 (constant (F := Ideal) S_ .f32 0x00000000#32)) := by
  refine (ssa2.pun (W6 m ρ c) 3 rfl (by decide)).trans ?_
  rw [ssa2.pbin (W6 m ρ c) 2 rfl (by decide) (by decide), ssa2.pun (W6 m ρ c) 1 rfl (by decide), ssa2.pnul (W6 m ρ c) 0 rfl]
  rfl

end Ends

end Cert.Proof.KVal

end
-- ==== Proof.Combine.lean ====
/- The combining and the dispatching tensors: what the idealized kernel leaves is what the reference leaves. -/
module

public import proofs.«01_k».proof.Proof.Agree
public import proofs.«01_k».proof.Proof.KComb
public import proofs.«01_k».proof.Proof.KRank
public import proofs.«01_k».proof.Proof.RNoise

@[expose] public section

set_option maxRecDepth 16384

noncomputable section

namespace Cert.Proof.Agree

open Idealize.ShloMosaic Idealize.ShloMosaic.StableHlo Cert.Proof.RefRun Cert.Proof.Tok Cert.KernelIdeal.Gen Cert.Proof.Chosen

section

variable (x : Fl Cert.ReferenceIdeal.S8192x768) (w : Fl Cert.ReferenceIdeal.S64x768)
  (hx : ∀ i, ∃ r : ℝ, (x i : EReal) = r) (hw : ∀ i, ∃ r : ℝ, (w i : EReal) = r)

include hx hw in
/-- One over a token's sum of exponentials is the gate of its expert. -/
theorem gval_eq (s : Fin 8192) : (k0_pay71 (F := Ideal) (k0_pay4 (F := Ideal) x w) (ix2 s 0) : EReal)
    = gates (exps (logits x w)) (ix2 s (pick x w s)) := by
  obtain ⟨r, hr⟩ := logits_real hx hw
  rw [gates_row _ s (r s) _ (hr s) (pick_spec x w s)]
  pointwise [k0_pay71, k0_pay4]
  rw [pay3_eq, Finset.sum_congr rfl fun k _ => exps_row _ s (r s) _ (hr s) (pick_spec x w s) k, ← coe_sum, sub_self, Real.exp_zero]
  exact div_real 1 _ (sum_pos (r s) _).ne'

/-- The kept tokens of an expert. -/
def keeps (e : Fin 64) (s : Fin 8192) : Prop := Kept (fun t => pick x w t = e) (KNoise.key e) 128 s

/-- A token kept by an expert is one that chose it. -/
theorem keeps_pick (e : Fin 64) (s : Fin 8192) (h : keeps x w e s) : pick x w s = e := h.1

open scoped Classical in
/-- The kernel's entry, in numbers. -/
theorem entry_eq (K : Fin 64 → Fin 8192 → Prop) (pk : Fin 8192 → Fin 64) (s : Fin 8192) (g : EReal) (e : Fin 64) (q : Fin 128) :
    KVal.entry (BitVec.ofNat 32 (pk s)) (BitVec.ofNat 32 (RPos.loc pk K s)) (if K (pk s) s then 1#32 else 0#32) g e q
      = if (pk s = e ∧ K (pk s) s) ∧ RPos.loc pk K s = q.val then g else 0 := by
  have hl := KLoc.loc_le pk K s
  have he : ∀ a b : ℕ, a < 4294967296 → b < 4294967296 → IntOp.cmpi .eq (BitVec.ofNat 32 a) (BitVec.ofNat 32 b) = if b = a then 1#1 else 0#1 := by
    intro a b ha hb
    have : (BitVec.ofNat 32 a == BitVec.ofNat 32 b) = decide (b = a) := by
      by_cases h : b = a
      · subst h; simp
      · have : BitVec.ofNat 32 a ≠ BitVec.ofNat 32 b := fun hh => h (by
          have := congrArg BitVec.toNat hh
          rw [BitVec.toNat_ofNat, BitVec.toNat_ofNat] at this
          omega)
        simp [h, this]
    show BitVec.ofBool (_ == _) = _
    rw [this]
    by_cases h : b = a <;> simp [h]
  rw [KVal.entry, he _ _ (by omega) (by omega), he _ _ (by omega) (by omega)]
  have hs : IntOp.cmpi .sgt (if K (pk s) s then 1#32 else 0#32) 0#32 = if K (pk s) s then 1#1 else 0#1 := by
    split <;> decide
  rw [hs]
  by_cases h1 : pk s = e
  · by_cases h2 : RPos.loc pk K s = q.val
    · by_cases h3 : K (pk s) s
      · rw [if_pos (congrArg Fin.val h1), if_pos h2, if_pos h3, if_pos (⟨⟨h1, h3⟩, h2⟩ : (pk s = e ∧ K (pk s) s) ∧ RPos.loc pk K s = q.val)]; exact if_pos (by decide)
      · have hn : ¬((pk s = e ∧ K (pk s) s) ∧ RPos.loc pk K s = q.val) := fun h => h3 h.1.2
        rw [if_pos (congrArg Fin.val h1), if_pos h2, if_neg h3, if_neg hn]; exact if_neg (by decide)
    · have hn : ¬((pk s = e ∧ K (pk s) s) ∧ RPos.loc pk K s = q.val) := fun h => h2 h.2
      rw [if_neg h2, if_neg hn]
      split <;> split <;> exact if_neg (by decide)
  · have hv : ¬(pk s).val = e.val := fun h => h1 (Fin.ext h)
    have hn : ¬((pk s = e ∧ K (pk s) s) ∧ RPos.loc pk K s = q.val) := fun h => h1 h.1.1
    rw [if_neg hv, if_neg hn]
    split <;> split <;> exact if_neg (by decide)

open scoped Classical in
/-- The reference's entry, in numbers. -/
theorem ref_entry_eq (K : Fin 64 → Fin 8192 → Prop) (pk : Fin 8192 → Fin 64) (s : Fin 8192) (g : ℝ) (e : Fin 64) (q : Fin 128)
    (hK : ∀ e s, K e s → pk s = e) :
    (((g : EReal) * ((((if K e s then 1#32 else 0#32 : BitVec 32)).toInt : ℝ) : EReal))
      * (((IntOp.cmpi .eq (BitVec.ofNat 32 (RPos.loc pk K s)) (BitVec.ofNat 32 q.val) : BitVec 1).toNat : ℝ) : EReal))
      = if (pk s = e ∧ K (pk s) s) ∧ RPos.loc pk K s = q.val then (g : EReal) else 0 := by
  have hl := KLoc.loc_le pk K s
  have hc : (IntOp.cmpi .eq (BitVec.ofNat 32 (RPos.loc pk K s)) (BitVec.ofNat 32 q.val) : BitVec 1) = if RPos.loc pk K s = q.val then 1#1 else 0#1 := by
    by_cases h : RPos.loc pk K s = q.val
    · rw [if_pos h, h]
      show BitVec.ofBool (BitVec.ofNat 32 q.val == BitVec.ofNat 32 q.val) = 1#1
      rw [beq_self_eq_true]
      rfl
    · have : BitVec.ofNat 32 (RPos.loc pk K s) ≠ BitVec.ofNat 32 q.val := fun hh => h (by
        have := congrArg BitVec.toNat hh
        rw [BitVec.toNat_ofNat, BitVec.toNat_ofNat] at this
        omega)
      rw [if_neg h]
      show BitVec.ofBool (BitVec.ofNat 32 (RPos.loc pk K s) == BitVec.ofNat 32 q.val) = 0#1
      rw [beq_eq_false_iff_ne.mpr this]
      rfl
  rw [hc]
  by_cases h1 : K e s
  · have hp := hK e s h1
    have h1' : K (pk s) s := by rw [hp]; exact h1
    by_cases h2 : RPos.loc pk K s = q.val
    · rw [if_pos h1, if_pos h2, if_pos ⟨⟨hp, h1'⟩, h2⟩]
      norm_num
    · have hn : ¬((pk s = e ∧ K (pk s) s) ∧ RPos.loc pk K s = q.val) := fun h => h2 h.2
      rw [if_pos h1, if_neg h2, if_neg hn]
      norm_num
  · have hn : ¬((pk s = e ∧ K (pk s) s) ∧ RPos.loc pk K s = q.val) := by
      rintro ⟨⟨rfl, h⟩, -⟩
      exact h1 h
    rw [if_neg h1, if_neg hn]
    norm_num

end

section

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (V : Valuation Cert.ReferenceIdeal.τ Cert.ReferenceIdeal.sig (Elt Ideal))
  (h0 : V (Proc.devRef .tc Cert.ReferenceIdeal.main_arg0) = m ((c.tc : Thread _ _).loc Cert.KernelIdeal.main_arg0))
  (h1 : V (Proc.devRef .tc Cert.ReferenceIdeal.main_arg1) = m ((c.tc : Thread _ _).loc Cert.KernelIdeal.main_arg1))
  (hp : Cert.Pre_finite_args.fn (F := Ideal) (m ((c.tc : Thread _ _).loc Cert.KernelIdeal.main_arg0))
    (m ((c.tc : Thread _ _).loc Cert.KernelIdeal.main_arg1)) = fun _ => 1#1)

open scoped Classical in
include h0 h1 hp in
/-- The reference's combining tensor, entry by entry. -/
theorem ref_comb (x : Fl Cert.ReferenceIdeal.S8192x768) (w : Fl Cert.ReferenceIdeal.S64x768)
    (ex : m ((c.tc : Thread _ _).loc Cert.KernelIdeal.main_arg0) = x) (ew : m ((c.tc : Thread _ _).loc Cert.KernelIdeal.main_arg1) = w)
    (s : Fin 8192) (e : Fin 64) (q : Fin 128) :
    (after ops V (Proc.devRef .tc Cert.ReferenceIdeal.main_v70) (ix3 s e q) : EReal)
      = if (pick x w s = e ∧ keeps x w (pick x w s) s) ∧ RPos.loc (pick x w) (keeps x w) s = q.val
        then gates (exps (logits x w)) (ix2 s (pick x w s)) else 0 := by
  obtain ⟨hx, hw⟩ := finite _ _ hp
  rw [ex] at hx
  rw [ew] at hw
  have hl : after ops V (Proc.devRef .tc Cert.ReferenceIdeal.main_v1) = logits x w := by
    rw [r_logits m c V h0 h1, ex, ew]
  have hg : after ops V (Proc.devRef .tc Cert.ReferenceIdeal.main_v12) = gates (exps (logits x w)) := by
    rw [a_gates, a_exps, hl]
  have ho : after ops V (Proc.devRef .tc Cert.ReferenceIdeal.main_v14) = oneHot (amax (gates (exps (logits x w)))) := by
    rw [a_oneHot, a_amax, hg]
  have hk : ∀ s e, after ops V (Proc.devRef .tc Cert.ReferenceIdeal.main_v57) (ix2 s e) = if keeps x w e s then 1#32 else 0#32 := by
    intro s e
    rw [RefRun.ssa.pbin V 350 rfl (by decide) (by decide), RTop.a_marks, RTop.a_masked]
    exact RTop.kept_eq (pick x w) _ (fun s e => by rw [ho]; exact oneHot_apply s (pick x w) _ (r_pick x w hx hw) e) _ (RNoise.v33_eq V) s e
  obtain ⟨g, hgr⟩ := gates_real x w hx hw
  rw [RPos.a_comb, RPos.comb_apply, RPos.a_place, RPos.place_apply (pick x w) (keeps x w) (keeps_pick x w) _ hk, hk, hg, hgr,
    ref_entry_eq (keeps x w) (pick x w) s _ e q (keeps_pick x w)]
  by_cases hc : (pick x w s = e ∧ keeps x w (pick x w s) s) ∧ RPos.loc (pick x w) (keeps x w) s = q.val
  · rw [if_pos hc, if_pos hc, hgr, hc.1.1]
  · rw [if_neg hc, if_neg hc]

open scoped Classical in
include hp in
/-- The kernel's combining tensor, entry by entry. -/
theorem kernel_comb (x : Fl Cert.ReferenceIdeal.S8192x768) (w : Fl Cert.ReferenceIdeal.S64x768)
    (ex : m ((c.tc : Thread _ _).loc Cert.KernelIdeal.main_arg0) = x) (ew : m ((c.tc : Thread _ _).loc Cert.KernelIdeal.main_arg1) = w)
    (s : Fin 8192) (e : Fin 64) (q : Fin 128) :
    (W7 m ρ c (Proc.devRef .tc Cert.KernelIdeal.main_v192) (ix3 s e q) : EReal)
      = if (pick x w s = e ∧ keeps x w (pick x w s) s) ∧ RPos.loc (pick x w) (keeps x w) s = q.val
        then gates (exps (logits x w)) (ix2 s (pick x w s)) else 0 := by
  obtain ⟨hx, hw⟩ := finite _ _ hp
  rw [ex] at hx
  rw [ew] at hw
  obtain ⟨rk, hb, hord, hr⟩ := KNoise.rank_table m ρ c
  have hlane : ∀ s e, k0_pay16 (F := Ideal) x w (W4 m ρ c (Proc.devRef .tc Cert.KernelIdeal.main_v190))
      (Route.low x w (W4 m ρ c (Proc.devRef .tc Cert.KernelIdeal.main_v190))) (ix2 s e) = if keeps x w e s then 1#1 else 0#1 := fun s e =>
    KSel.kept_lane (pick x w) x w (k_pick x w) rk _ hr KNoise.key hb hord _ (List.length_finRange.trans (by decide)) s e
  rw [KVal.W7_comb m ρ c x w _ ex ew rfl s e q, k_pick, KLoc.loc_apply (pick x w) (keeps x w) (keeps_pick x w) _ (KLoc.marks_apply x w _ _ _ hlane) s,
    KSel.sel_apply (pick x w) (keeps x w) (keeps_pick x w) _ hlane s, gval_eq x w hx hw, entry_eq (keeps x w) (pick x w)]

include h0 h1 hp in
/-- The combining tensors' buffers end alike. -/
theorem comb_end : W7 m ρ c (Proc.devRef .tc Cert.KernelIdeal.main_v192) = after ops V (Proc.devRef .tc Cert.ReferenceIdeal.main_v70) := by
  funext i
  obtain ⟨s, e, q, rfl⟩ : ∃ (s : Fin 8192) (e : Fin 64) (q : Fin 128), i = ix3 s e q := ⟨i 0, i 1, i 2, eq_ix3 i⟩
  exact (kernel_comb m ρ c hp _ _ rfl rfl s e q).trans (ref_comb m c V h0 h1 hp _ _ rfl rfl s e q).symm

include h0 h1 hp in
/-- The dispatching tensors' buffers end alike. -/
theorem dispatch_end : W7 m ρ c (Proc.devRef .tc Cert.KernelIdeal.main_v195) = after ops V (Proc.devRef .tc Cert.ReferenceIdeal.main_v73) := by
  rw [KVal.W7_disp, comb_end m ρ c V h0 h1 hp, RPos.a_dispatch]

end

end Cert.Proof.Agree

end
-- ==== Proof.Value.lean ====
/- The value claim: the idealized kernel and the idealized reference end with equal results. -/
module

public import proofs.«01_k».proof.Defs
public import proofs.«01_k».proof.Proof.Combine
public import proofs.«01_k».proof.Proof.KRun

@[expose] public section

set_option maxRecDepth 16384

noncomputable section

namespace Cert.Proof.Value

open Idealize.ShloMosaic Idealize.ShloMosaic.StableHlo Cert.KernelIdeal.Gen Cert.Proof.Agree

/-- The four results of the two programs are equal. -/
theorem algebraic : Cert.algebraic_KernelIdeal_ReferenceIdeal_pre_finite_args := by
  intro m g m' g' hp ha
  refine ⟨fun c => W7 m g c (Proc.devRef .tc Cert.KernelIdeal.main_v196), fun c => W7 m g c (Proc.devRef .tc Cert.KernelIdeal.main_v192),
    fun c => W7 m g c (Proc.devRef .tc Cert.KernelIdeal.main_v195), fun c => W7 m g c (Proc.devRef .tc Cert.KernelIdeal.main_v197), ?_, ?_⟩
  · refine θ_run_mono (Cert.Proof.KRun.run m g) fun r h c => ⟨?_, ?_, ?_, ?_, ?_, ?_⟩
    · exact h c Cert.KernelIdeal.main_v196 (by decide)
    · exact h c Cert.KernelIdeal.main_v192 (by decide)
    · exact h c Cert.KernelIdeal.main_v195 (by decide)
    · exact h c Cert.KernelIdeal.main_v197 (by decide)
    · exact (h c Cert.KernelIdeal.main_arg0 (by decide)).trans (W7_main_arg0 m g c)
    · exact (h c Cert.KernelIdeal.main_arg1 (by decide)).trans (W7_main_arg1 m g c)
  · refine θ_run_mono (Cert.Proof.RefRun.run m' g') fun r h c => ⟨?_, ?_, ?_, ?_, ?_, ?_⟩
    · exact (h c Cert.ReferenceIdeal.main_v25).trans (funext fun i => (laux_end m g c _ (ha c).1 (ha c).2 (hp c) i).symm)
    · exact (h c Cert.ReferenceIdeal.main_v70).trans (comb_end m g c _ (ha c).1 (ha c).2 (hp c)).symm
    · exact (h c Cert.ReferenceIdeal.main_v73).trans (dispatch_end m g c _ (ha c).1 (ha c).2 (hp c)).symm
    · exact (h c Cert.ReferenceIdeal.main_v15).trans (funext fun i => (counts_end m g c _ (ha c).1 (ha c).2 (hp c) i).symm)
    · exact (h c Cert.ReferenceIdeal.main_arg0).trans (Cert.Proof.RefRun.ssa.arg _ (x := Cert.ReferenceIdeal.main_arg0) (by decide))
    · exact (h c Cert.ReferenceIdeal.main_arg1).trans (Cert.Proof.RefRun.ssa.arg _ (x := Cert.ReferenceIdeal.main_arg1) (by decide))

end Cert.Proof.Value

end
-- ==== Proof.lean ====
module

public import proofs.«01_k».proof.Proof.RefRun
public import proofs.«01_k».proof.Proof.Value
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The claims: the kernel, the idealized kernel and the idealized reference each run to the end, and the last two end
with equal results. -/
theorem claim : Cert.Claim :=
  ⟨Cert.Kernel.Gen.facts, Cert.KernelIdeal.Gen.facts, Cert.ReferenceIdeal.Gen.facts, inferInstance,
    fun m g _ => Cert.Kernel.Gen.frame m g, fun m g _ => Cert.KernelIdeal.Gen.frame m g,
    fun m g _ => Cert.KernelIdeal.Gen.frame m g,
    by
      intro m g _
      exact Cert.Proof.RefRun.frame m g,
    by
      intro m g _
      exact Cert.Proof.RefRun.frame m g,
    trivial, Cert.Proof.Value.algebraic⟩

end Cert.Proof

end
